-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_centred_boxes [hPre_centred_boxes : Cert.Pre_centred_boxes.Facts] (m : (ℓ : Loc Cert.KernelIdeal.nD Cert.KernelIdeal.τ Cert.KernelIdeal.sig) → Buf (Elt Ideal) ℓ) : Prop :=
  ∀ c : Dev Cert.KernelIdeal.nD,
    (Cert.Pre_centred_boxes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_centred_boxes [hPre_centred_boxes : Cert.Pre_centred_boxes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_centred_boxes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_centred_boxes [hKernelIdeal : Cert.KernelIdeal.Facts] [hPre_centred_boxes : Cert.Pre_centred_boxes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_centred_boxes m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_centred_boxes [hReferenceIdeal : Cert.ReferenceIdeal.Facts] [hPre_centred_boxes : Cert.Pre_centred_boxes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_centred_boxes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_centred_boxes [hKernelIdeal : Cert.KernelIdeal.Facts] [hReferenceIdeal : Cert.ReferenceIdeal.Facts] [hPre_centred_boxes : Cert.Pre_centred_boxes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_centred_boxes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v214) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_centred_boxes : Cert.Pre_centred_boxes.Facts),
    quiescent_Kernel (hKernel := hKernel)
    ∧ quiescent_KernelIdeal (hKernelIdeal := hKernelIdeal)
    ∧ quiescent_KernelIdeal_pre_centred_boxes (hKernelIdeal := hKernelIdeal) (hPre_centred_boxes := hPre_centred_boxes)
    ∧ quiescent_ReferenceIdeal (hReferenceIdeal := hReferenceIdeal)
    ∧ quiescent_ReferenceIdeal_pre_centred_boxes (hReferenceIdeal := hReferenceIdeal) (hPre_centred_boxes := hPre_centred_boxes)
    ∧ preserves_Kernel_KernelIdeal
    ∧ algebraic_KernelIdeal_ReferenceIdeal_pre_centred_boxes (hKernelIdeal := hKernelIdeal) (hReferenceIdeal := hReferenceIdeal) (hPre_centred_boxes := hPre_centred_boxes)
-- ==== Pre_centred_boxes.lean ====
abbrev S256x13x13x2x25 : Shape := ⟨5, ![256, 13, 13, 2, 25]⟩
abbrev S256x8x4 : Shape := ⟨3, ![256, 8, 4]⟩
abbrev S256x8 : Shape := ⟨2, ![256, 8]⟩
abbrev S256x13x13x1x1 : Shape := ⟨5, ![256, 13, 13, 1, 1]⟩
abbrev S256x13x13 : Shape := ⟨3, ![256, 13, 13]⟩
abbrev S_ : Shape := ⟨0, ![]⟩
abbrev S256x8x1 : Shape := ⟨3, ![256, 8, 1]⟩

class Facts : Prop where
  slices_S256x13x13x2x25_S256x13x13x1x1_0_0_0_0_4 : S256x13x13x2x25.Slices ![0, 0, 0, 0, 4] S256x13x13x1x1
  shapeCasts_S256x13x13x1x1_S256x13x13 : S256x13x13x1x1.ShapeCasts S256x13x13
  bcast_S_S256x13x13 : S_.BroadcastsInDim S256x13x13 (![] : Fin 0 → Fin S256x13x13.rank)
  reducesTo_S256x13x13_S_d0_1_2 : S256x13x13.ReducesTo [0, 1, 2] S_
  h_S_ : 0 < S_.numel
  slices_S256x8x4_S256x8x1_0_0_0 : S256x8x4.Slices ![0, 0, 0] S256x8x1
  shapeCasts_S256x8x1_S256x8 : S256x8x1.ShapeCasts S256x8
  slices_S256x8x4_S256x8x1_0_0_2 : S256x8x4.Slices ![0, 0, 2] S256x8x1
  bcast_S_S256x8 : S_.BroadcastsInDim S256x8 (![] : Fin 0 → Fin S256x8.rank)
  reducesTo_S256x8_S_d0_1 : S256x8.ReducesTo [0, 1] S_
  slices_S256x8x4_S256x8x1_0_0_1 : S256x8x4.Slices ![0, 0, 1] S256x8x1
  slices_S256x8x4_S256x8x1_0_0_3 : S256x8x4.Slices ![0, 0, 3] S256x8x1

variable [Facts]

def fn_part1 {F : FTy → Type} [FloatOps F] (main_v13 : IVec S_ 1) (main_v18 : FVec F S256x8 .f32) (main_cst_2 : FVec F S_ .f32) : IVec S_ 1 :=
  let main_v19 : FVec F S256x8 .f32 := broadcastInDim S256x8 ![] bcast_S_S256x8 main_cst_2
  let main_v20 : IVec S256x8 1 := cmpf .oge main_v18 main_v19
  let main_c_3 : IVec S_ 1 := constantI S_ 1 1#1
  let main_v21 : IVec S_ 1 := (fun x v => Host.reduce IntOp.andi x v reducesTo_S256x8_S_d0_1 h_S_) main_v20 main_c_3
  let main_v22 : IVec S_ 1 := andi main_v13 main_v21
  main_v22

def fn {F : FTy → Type} [FloatOps F] (main_arg0 : FVec F S256x13x13x2x25 .f32) (main_arg1 : FVec F S256x8x4 .f32) (main_arg2 : IVec S256x8 32) : IVec S_ 1 :=
  let main_v0 : FVec F S256x13x13x1x1 .f32 := (extractStridedSlice S256x13x13x1x1 ![0, 0, 0, 0, 4] · slices_S256x13x13x2x25_S256x13x13x1x1_0_0_0_0_4) main_arg0
  let main_v1 : FVec F S256x13x13 .f32 := shapeCast S256x13x13 main_v0 shapeCasts_S256x13x13x1x1_S256x13x13
  let main_cst : FVec F S_ .f32 := constant S_ .f32 0x7F800000#32
  let main_v2 : FVec F S256x13x13 .f32 := broadcastInDim S256x13x13 ![] bcast_S_S256x13x13 main_cst
  let main_v3 : IVec S256x13x13 1 := cmpf .olt main_v1 main_v2
  let main_c : IVec S_ 1 := constantI S_ 1 1#1
  let main_v4 : IVec S_ 1 := (fun x v => Host.reduce IntOp.andi x v reducesTo_S256x13x13_S_d0_1_2 h_S_) main_v3 main_c
  let main_v5 : FVec F S256x8x1 .f32 := (extractStridedSlice S256x8x1 ![0, 0, 0] · slices_S256x8x4_S256x8x1_0_0_0) main_arg1
  let main_v6 : FVec F S256x8 .f32 := shapeCast S256x8 main_v5 shapeCasts_S256x8x1_S256x8
  let main_v7 : FVec F S256x8x1 .f32 := (extractStridedSlice S256x8x1 ![0, 0, 2] · slices_S256x8x4_S256x8x1_0_0_2) main_arg1
  let main_v8 : FVec F S256x8 .f32 := shapeCast S256x8 main_v7 shapeCasts_S256x8x1_S256x8
  let main_v9 : FVec F S256x8 .f32 := addf main_v6 main_v8
  let main_cst_0 : FVec F S_ .f32 := constant S_ .f32 0x00000000#32
  let main_v10 : FVec F S256x8 .f32 := broadcastInDim S256x8 ![] bcast_S_S256x8 main_cst_0
  let main_v11 : IVec S256x8 1 := cmpf .oge main_v9 main_v10
  let main_c_1 : IVec S_ 1 := constantI S_ 1 1#1
  let main_v12 : IVec S_ 1 := (fun x v => Host.reduce IntOp.andi x v reducesTo_S256x8_S_d0_1 h_S_) main_v11 main_c_1
  let main_v13 : IVec S_ 1 := andi main_v4 main_v12
  let main_v14 : FVec F S256x8x1 .f32 := (extractStridedSlice S256x8x1 ![0, 0, 1] · slices_S256x8x4_S256x8x1_0_0_1) main_arg1
  let main_v15 : FVec F S256x8 .f32 := shapeCast S256x8 main_v14 shapeCasts_S256x8x1_S256x8
  let main_v16 : FVec F S256x8x1 .f32 := (extractStridedSlice S256x8x1 ![0, 0, 3] · slices_S256x8x4_S256x8x1_0_0_3) main_arg1
  let main_v17 : FVec F S256x8 .f32 := shapeCast S256x8 main_v16 shapeCasts_S256x8x1_S256x8
  let main_v18 : FVec F S256x8 .f32 := addf main_v15 main_v17
  let main_cst_2 : FVec F S_ .f32 := constant S_ .f32 0x00000000#32
  fn_part1 (F := F) main_v13 main_v18 main_cst_2
-- ==== Kernel.lean ====
abbrev S256x13x13x2x25 : Shape := ⟨5, ![256, 13, 13, 2, 25]⟩
abbrev S256x8x4 : Shape := ⟨3, ![256, 8, 4]⟩
abbrev S256x8 : Shape := ⟨2, ![256, 8]⟩
abbrev S2x128x13x13x2x25 : Shape := ⟨6, ![2, 128, 13, 13, 2, 25]⟩
abbrev S13x13x25x2x2x128 : Shape := ⟨6, ![13, 13, 25, 2, 2, 128]⟩
abbrev S2x128x8x4 : Shape := ⟨4, ![2, 128, 8, 4]⟩
abbrev S8x2x4x128 : Shape := ⟨4, ![8, 2, 4, 128]⟩
abbrev S32x16 : Shape := ⟨2, ![32, 16]⟩
abbrev S25x2x128 : Shape := ⟨3, ![25, 2, 128]⟩
abbrev S2x128 : Shape := ⟨2, ![2, 128]⟩
abbrev S8x2x128 : Shape := ⟨3, ![8, 2, 128]⟩
abbrev S16 : Shape := ⟨1, ![16]⟩
abbrev S_ : Shape := ⟨0, ![]⟩
abbrev S1x1x25x2x1x128 : Shape := ⟨6, ![1, 1, 25, 2, 1, 128]⟩
abbrev S1x1x1x2x1x128 : Shape := ⟨6, ![1, 1, 1, 2, 1, 128]⟩
abbrev S1x1x16 : Shape := ⟨3, ![1, 1, 16]⟩
abbrev S1x16 : Shape := ⟨2, ![1, 16]⟩
abbrev S1x1x1x16 : Shape := ⟨4, ![1, 1, 1, 16]⟩

abbrev nBuf : Table → Nat
  | .hbm => 12
  | .local .scVector .vmem => 19
  | _ => 0

abbrev bufTy : (tb : Table) → Fin (nBuf tb) → BufTy
  | .hbm, ⟨0, _⟩ => ⟨S256x13x13x2x25, .f32⟩
  | .hbm, ⟨1, _⟩ => ⟨S256x8x4, .f32⟩
  | .hbm, ⟨2, _⟩ => ⟨S256x8, .i32⟩
  | .hbm, ⟨3, _⟩ => ⟨S2x128x13x13x2x25, .f32⟩
  | .hbm, ⟨4, _⟩ => ⟨S13x13x25x2x2x128, .f32⟩
  | .hbm, ⟨5, _⟩ => ⟨S2x128x8x4, .f32⟩
  | .hbm, ⟨6, _⟩ => ⟨S8x2x4x128, .f32⟩
  | .hbm, ⟨7, _⟩ => ⟨S32x16, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .local .scVector .vmem, ⟨0, _⟩ => ⟨S25x2x128, .f32⟩
  | .local .scVector .vmem, ⟨1, _⟩ => ⟨S2x128, .f32⟩
  | .local .scVector .vmem, ⟨2, _⟩ => ⟨S25x2x128, .f32⟩
  | .local .scVector .vmem, ⟨3, _⟩ => ⟨S2x128, .f32⟩
  | .local .scVector .vmem, ⟨4, _⟩ => ⟨S25x2x128, .f32⟩
  | .local .scVector .vmem, ⟨5, _⟩ => ⟨S2x128, .f32⟩
  | .local .scVector .vmem, ⟨6, _⟩ => ⟨S25x2x128, .f32⟩
  | .local .scVector .vmem, ⟨7, _⟩ => ⟨S2x128, .f32⟩
  | .local .scVector .vmem, ⟨8, _⟩ => ⟨S25x2x128, .f32⟩
  | .local .scVector .vmem, ⟨9, _⟩ => ⟨S2x128, .f32⟩
  | .local .scVector .vmem, ⟨10, _⟩ => ⟨S25x2x128, .f32⟩
  | .local .scVector .vmem, ⟨11, _⟩ => ⟨S2x128, .f32⟩
  | .local .scVector .vmem, ⟨12, _⟩ => ⟨S8x2x4x128, .f32⟩
  | .local .scVector .vmem, ⟨13, _⟩ => ⟨S8x2x128, .i32⟩
  | .local .scVector .vmem, ⟨14, _⟩ => ⟨S8x2x128, .f32⟩
  | .local .scVector .vmem, ⟨15, _⟩ => ⟨S8x2x128, .f32⟩
  | .local .scVector .vmem, ⟨16, _⟩ => ⟨S8x2x128, .f32⟩
  | .local .scVector .vmem, ⟨17, _⟩ => ⟨S8x2x128, .f32⟩
  | .local .scVector .vmem, ⟨18, _⟩ => ⟨S16, .f32⟩
  | _, _ => ⟨S256x13x13x2x25, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v1_scv : Ref sig .scVector := ⟨.hbm, 4, rfl⟩
abbrev main_v3_scv : Ref sig .scVector := ⟨.hbm, 6, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev cc0_scratch10 : Ref sig .scVector := ⟨.vmem, 10, rfl⟩
abbrev cc0_scratch11 : Ref sig .scVector := ⟨.vmem, 11, rfl⟩
abbrev cc0_scratch12 : Ref sig .scVector := ⟨.vmem, 12, rfl⟩
abbrev cc0_scratch13 : Ref sig .scVector := ⟨.vmem, 13, rfl⟩
abbrev cc0_scratch14 : Ref sig .scVector := ⟨.vmem, 14, rfl⟩
abbrev cc0_scratch15 : Ref sig .scVector := ⟨.vmem, 15, rfl⟩
abbrev cc0_scratch16 : Ref sig .scVector := ⟨.vmem, 16, rfl⟩
abbrev cc0_scratch17 : Ref sig .scVector := ⟨.vmem, 17, rfl⟩
abbrev cc0_scratch18 : Ref sig .scVector := ⟨.vmem, 18, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c0_i32 v1
  let c169_i32 : BitVec 32 := 169#32
  let v7 : BitVec 1 := Scalar.cmpi .slt v6 c169_i32
  let v8 : BitVec 32 := Scalar.extui v7
  let c0_i32_0 : BitVec 32 := 0#32
  let v9 : BitVec 1 := Scalar.cmpi .ne v8 c0_i32_0
  v9

def k0_off1 (i : grid0.Coords) : Fin 6 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c0_i32 v1
  let c0_i32_40 : BitVec 32 := 0#32
  let v71 : BitVec 1 := Scalar.cmpi .sgt v6 c0_i32_40
  let v72 : BitVec 32 := Scalar.extui v71
  let c0_i32_41 : BitVec 32 := 0#32
  let v73 : BitVec 1 := Scalar.cmpi .slt v6 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v6 c13_i32
  let c0_i32_44 : BitVec 32 := 0#32
  let v83 : BitVec 1 := Scalar.cmpi .ne v82 c0_i32_44
  let v84 : BitVec 1 := Scalar.andi v81 v83
  let v70 : BitVec 32 := Scalar.divsi v6 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v6 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off2 (i : grid0.Coords) : Fin 6 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v6 : BitVec 32 := Scalar.addi c0_i32 v1
  let c0_i32_60 : BitVec 32 := 0#32
  let v102 : BitVec 1 := Scalar.cmpi .sgt v6 c0_i32_60
  let v103 : BitVec 32 := Scalar.extui v102
  let c0_i32_61 : BitVec 32 := 0#32
  let v104 : BitVec 1 := Scalar.cmpi .slt v6 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v6 c13_i32_59
  let c0_i32_64 : BitVec 32 := 0#32
  let v114 : BitVec 1 := Scalar.cmpi .ne v113 c0_i32_64
  let v115 : BitVec 1 := Scalar.andi v112 v114
  let v101 : BitVec 32 := Scalar.divsi v6 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v6 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond2 (i : grid0.Coords) : BitVec 1 :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi c32_i32 v1
  let c169_i32_1 : BitVec 32 := 169#32
  let v11 : BitVec 1 := Scalar.cmpi .slt v10 c169_i32_1
  let v12 : BitVec 32 := Scalar.extui v11
  let c0_i32_2 : BitVec 32 := 0#32
  let v13 : BitVec 1 := Scalar.cmpi .ne v12 c0_i32_2
  v13

def k0_off3 (i : grid0.Coords) : Fin 6 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi c32_i32 v1
  let c0_i32_40 : BitVec 32 := 0#32
  let v71 : BitVec 1 := Scalar.cmpi .sgt v10 c0_i32_40
  let v72 : BitVec 32 := Scalar.extui v71
  let c0_i32_41 : BitVec 32 := 0#32
  let v73 : BitVec 1 := Scalar.cmpi .slt v10 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v10 c13_i32
  let c0_i32_44 : BitVec 32 := 0#32
  let v83 : BitVec 1 := Scalar.cmpi .ne v82 c0_i32_44
  let v84 : BitVec 1 := Scalar.andi v81 v83
  let v70 : BitVec 32 := Scalar.divsi v10 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v10 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off4 (i : grid0.Coords) : Fin 6 → Nat :=
  let c32_i32 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v10 : BitVec 32 := Scalar.addi c32_i32 v1
  let c0_i32_60 : BitVec 32 := 0#32
  let v102 : BitVec 1 := Scalar.cmpi .sgt v10 c0_i32_60
  let v103 : BitVec 32 := Scalar.extui v102
  let c0_i32_61 : BitVec 32 := 0#32
  let v104 : BitVec 1 := Scalar.cmpi .slt v10 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v10 c13_i32_59
  let c0_i32_64 : BitVec 32 := 0#32
  let v114 : BitVec 1 := Scalar.cmpi .ne v113 c0_i32_64
  let v115 : BitVec 1 := Scalar.andi v112 v114
  let v101 : BitVec 32 := Scalar.divsi v10 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v10 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond3 (i : grid0.Coords) : BitVec 1 :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c64_i32 v1
  let c169_i32_3 : BitVec 32 := 169#32
  let v15 : BitVec 1 := Scalar.cmpi .slt v14 c169_i32_3
  let v16 : BitVec 32 := Scalar.extui v15
  let c0_i32_4 : BitVec 32 := 0#32
  let v17 : BitVec 1 := Scalar.cmpi .ne v16 c0_i32_4
  v17

def k0_off5 (i : grid0.Coords) : Fin 6 → Nat :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c64_i32 v1
  let c0_i32_40 : BitVec 32 := 0#32
  let v71 : BitVec 1 := Scalar.cmpi .sgt v14 c0_i32_40
  let v72 : BitVec 32 := Scalar.extui v71
  let c0_i32_41 : BitVec 32 := 0#32
  let v73 : BitVec 1 := Scalar.cmpi .slt v14 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v14 c13_i32
  let c0_i32_44 : BitVec 32 := 0#32
  let v83 : BitVec 1 := Scalar.cmpi .ne v82 c0_i32_44
  let v84 : BitVec 1 := Scalar.andi v81 v83
  let v70 : BitVec 32 := Scalar.divsi v14 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v14 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off6 (i : grid0.Coords) : Fin 6 → Nat :=
  let c64_i32 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v14 : BitVec 32 := Scalar.addi c64_i32 v1
  let c0_i32_60 : BitVec 32 := 0#32
  let v102 : BitVec 1 := Scalar.cmpi .sgt v14 c0_i32_60
  let v103 : BitVec 32 := Scalar.extui v102
  let c0_i32_61 : BitVec 32 := 0#32
  let v104 : BitVec 1 := Scalar.cmpi .slt v14 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v14 c13_i32_59
  let c0_i32_64 : BitVec 32 := 0#32
  let v114 : BitVec 1 := Scalar.cmpi .ne v113 c0_i32_64
  let v115 : BitVec 1 := Scalar.andi v112 v114
  let v101 : BitVec 32 := Scalar.divsi v14 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v14 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond4 (i : grid0.Coords) : BitVec 1 :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v18 : BitVec 32 := Scalar.addi c96_i32 v1
  let c169_i32_5 : BitVec 32 := 169#32
  let v19 : BitVec 1 := Scalar.cmpi .slt v18 c169_i32_5
  let v20 : BitVec 32 := Scalar.extui v19
  let c0_i32_6 : BitVec 32 := 0#32
  let v21 : BitVec 1 := Scalar.cmpi .ne v20 c0_i32_6
  v21

def k0_off7 (i : grid0.Coords) : Fin 6 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v18 : BitVec 32 := Scalar.addi c96_i32 v1
  let c0_i32_40 : BitVec 32 := 0#32
  let v71 : BitVec 1 := Scalar.cmpi .sgt v18 c0_i32_40
  let v72 : BitVec 32 := Scalar.extui v71
  let c0_i32_41 : BitVec 32 := 0#32
  let v73 : BitVec 1 := Scalar.cmpi .slt v18 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v18 c13_i32
  let c0_i32_44 : BitVec 32 := 0#32
  let v83 : BitVec 1 := Scalar.cmpi .ne v82 c0_i32_44
  let v84 : BitVec 1 := Scalar.andi v81 v83
  let v70 : BitVec 32 := Scalar.divsi v18 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v18 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off8 (i : grid0.Coords) : Fin 6 → Nat :=
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v18 : BitVec 32 := Scalar.addi c96_i32 v1
  let c0_i32_60 : BitVec 32 := 0#32
  let v102 : BitVec 1 := Scalar.cmpi .sgt v18 c0_i32_60
  let v103 : BitVec 32 := Scalar.extui v102
  let c0_i32_61 : BitVec 32 := 0#32
  let v104 : BitVec 1 := Scalar.cmpi .slt v18 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v18 c13_i32_59
  let c0_i32_64 : BitVec 32 := 0#32
  let v114 : BitVec 1 := Scalar.cmpi .ne v113 c0_i32_64
  let v115 : BitVec 1 := Scalar.andi v112 v114
  let v101 : BitVec 32 := Scalar.divsi v18 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v18 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond5 (i : grid0.Coords) : BitVec 1 :=
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi c128_i32 v1
  let c169_i32_7 : BitVec 32 := 169#32
  let v23 : BitVec 1 := Scalar.cmpi .slt v22 c169_i32_7
  let v24 : BitVec 32 := Scalar.extui v23
  let c0_i32_8 : BitVec 32 := 0#32
  let v25 : BitVec 1 := Scalar.cmpi .ne v24 c0_i32_8
  v25

def k0_off9 (i : grid0.Coords) : Fin 6 → Nat :=
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi c128_i32 v1
  let c0_i32_40 : BitVec 32 := 0#32
  let v71 : BitVec 1 := Scalar.cmpi .sgt v22 c0_i32_40
  let v72 : BitVec 32 := Scalar.extui v71
  let c0_i32_41 : BitVec 32 := 0#32
  let v73 : BitVec 1 := Scalar.cmpi .slt v22 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v22 c13_i32
  let c0_i32_44 : BitVec 32 := 0#32
  let v83 : BitVec 1 := Scalar.cmpi .ne v82 c0_i32_44
  let v84 : BitVec 1 := Scalar.andi v81 v83
  let v70 : BitVec 32 := Scalar.divsi v22 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v22 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off10 (i : grid0.Coords) : Fin 6 → Nat :=
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v22 : BitVec 32 := Scalar.addi c128_i32 v1
  let c0_i32_60 : BitVec 32 := 0#32
  let v102 : BitVec 1 := Scalar.cmpi .sgt v22 c0_i32_60
  let v103 : BitVec 32 := Scalar.extui v102
  let c0_i32_61 : BitVec 32 := 0#32
  let v104 : BitVec 1 := Scalar.cmpi .slt v22 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v22 c13_i32_59
  let c0_i32_64 : BitVec 32 := 0#32
  let v114 : BitVec 1 := Scalar.cmpi .ne v113 c0_i32_64
  let v115 : BitVec 1 := Scalar.andi v112 v114
  let v101 : BitVec 32 := Scalar.divsi v22 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v22 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond6 (i : grid0.Coords) : BitVec 1 :=
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v26 : BitVec 32 := Scalar.addi c160_i32 v1
  let c169_i32_9 : BitVec 32 := 169#32
  let v27 : BitVec 1 := Scalar.cmpi .slt v26 c169_i32_9
  let v28 : BitVec 32 := Scalar.extui v27
  let c0_i32_10 : BitVec 32 := 0#32
  let v29 : BitVec 1 := Scalar.cmpi .ne v28 c0_i32_10
  v29

def k0_off11 (i : grid0.Coords) : Fin 6 → Nat :=
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v26 : BitVec 32 := Scalar.addi c160_i32 v1
  let c0_i32_40 : BitVec 32 := 0#32
  let v71 : BitVec 1 := Scalar.cmpi .sgt v26 c0_i32_40
  let v72 : BitVec 32 := Scalar.extui v71
  let c0_i32_41 : BitVec 32 := 0#32
  let v73 : BitVec 1 := Scalar.cmpi .slt v26 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v26 c13_i32
  let c0_i32_44 : BitVec 32 := 0#32
  let v83 : BitVec 1 := Scalar.cmpi .ne v82 c0_i32_44
  let v84 : BitVec 1 := Scalar.andi v81 v83
  let v70 : BitVec 32 := Scalar.divsi v26 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v26 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off12 (i : grid0.Coords) : Fin 6 → Nat :=
  let c160_i32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v26 : BitVec 32 := Scalar.addi c160_i32 v1
  let c0_i32_60 : BitVec 32 := 0#32
  let v102 : BitVec 1 := Scalar.cmpi .sgt v26 c0_i32_60
  let v103 : BitVec 32 := Scalar.extui v102
  let c0_i32_61 : BitVec 32 := 0#32
  let v104 : BitVec 1 := Scalar.cmpi .slt v26 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v26 c13_i32_59
  let c0_i32_64 : BitVec 32 := 0#32
  let v114 : BitVec 1 := Scalar.cmpi .ne v113 c0_i32_64
  let v115 : BitVec 1 := Scalar.andi v112 v114
  let v101 : BitVec 32 := Scalar.divsi v26 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v26 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
@[reducible] def k0_t1_loop : Scf.Loop 32 :=
  let c0_i32_14 : BitVec 32 := 0#32
  let c128_i32_15 : BitVec 32 := 128#32
  let v36 : BitVec 32 := Scalar.addi c0_i32_14 c128_i32_15
  let c1_i32 : BitVec 32 := 1#32
  ⟨c0_i32_14, v36, c1_i32⟩
def k0_off13 (k0_t1 : Fin k0_t1_loop.trips) : Fin 4 → Nat :=
  let c0_i32_14 : BitVec 32 := 0#32
  let c1_i32 : BitVec 32 := 1#32
  let arg25 : BitVec 32 := Scf.iv c0_i32_14 c1_i32 k0_t1
  let c4_i32 : BitVec 32 := 4#32
  let v70 : BitVec 32 := Scalar.shrsi arg25 c4_i32
  let v75 : Index := Scalar.indexCast v70
  let c3_i32 : BitVec 32 := 3#32
  let v71 : BitVec 32 := Scalar.shrsi arg25 c3_i32
  let c1_i32_40 : BitVec 32 := 1#32
  let v72 : BitVec 32 := Scalar.andi v71 c1_i32_40
  let v76 : Index := Scalar.indexCast v72
  let c0_i32_42 : BitVec 32 := 0#32
  let v77 : Index := Scalar.indexCast c0_i32_42
  let c7_i32 : BitVec 32 := 7#32
  let v73 : BitVec 32 := Scalar.andi arg25 c7_i32
  let c16_i32_41 : BitVec 32 := 16#32
  let v74 : BitVec 32 := Scalar.muli v73 c16_i32_41
  let v78 : Index := Scalar.indexCast v74
  ![v75.toNat, v76.toNat, 0, v78.toNat]
def k0_off14 (k0_t1 : Fin k0_t1_loop.trips) : Fin 4 → Nat :=
  let c0_i32_14 : BitVec 32 := 0#32
  let c1_i32 : BitVec 32 := 1#32
  let arg25 : BitVec 32 := Scf.iv c0_i32_14 c1_i32 k0_t1
  let c4_i32 : BitVec 32 := 4#32
  let v70 : BitVec 32 := Scalar.shrsi arg25 c4_i32
  let v81 : Index := Scalar.indexCast v70
  let c3_i32 : BitVec 32 := 3#32
  let v71 : BitVec 32 := Scalar.shrsi arg25 c3_i32
  let c1_i32_40 : BitVec 32 := 1#32
  let v72 : BitVec 32 := Scalar.andi v71 c1_i32_40
  let v82 : Index := Scalar.indexCast v72
  let c1_i32_43 : BitVec 32 := 1#32
  let v83 : Index := Scalar.indexCast c1_i32_43
  let c7_i32 : BitVec 32 := 7#32
  let v73 : BitVec 32 := Scalar.andi arg25 c7_i32
  let c16_i32_41 : BitVec 32 := 16#32
  let v74 : BitVec 32 := Scalar.muli v73 c16_i32_41
  let v84 : Index := Scalar.indexCast v74
  ![v81.toNat, v82.toNat, 1, v84.toNat]
def k0_off15 (k0_t1 : Fin k0_t1_loop.trips) : Fin 4 → Nat :=
  let c0_i32_14 : BitVec 32 := 0#32
  let c1_i32 : BitVec 32 := 1#32
  let arg25 : BitVec 32 := Scf.iv c0_i32_14 c1_i32 k0_t1
  let c4_i32 : BitVec 32 := 4#32
  let v70 : BitVec 32 := Scalar.shrsi arg25 c4_i32
  let v87 : Index := Scalar.indexCast v70
  let c3_i32 : BitVec 32 := 3#32
  let v71 : BitVec 32 := Scalar.shrsi arg25 c3_i32
  let c1_i32_40 : BitVec 32 := 1#32
  let v72 : BitVec 32 := Scalar.andi v71 c1_i32_40
  let v88 : Index := Scalar.indexCast v72
  let c2_i32_44 : BitVec 32 := 2#32
  let v89 : Index := Scalar.indexCast c2_i32_44
  let c7_i32 : BitVec 32 := 7#32
  let v73 : BitVec 32 := Scalar.andi arg25 c7_i32
  let c16_i32_41 : BitVec 32 := 16#32
  let v74 : BitVec 32 := Scalar.muli v73 c16_i32_41
  let v90 : Index := Scalar.indexCast v74
  ![v87.toNat, v88.toNat, 2, v90.toNat]
def k0_off16 (k0_t1 : Fin k0_t1_loop.trips) : Fin 4 → Nat :=
  let c0_i32_14 : BitVec 32 := 0#32
  let c1_i32 : BitVec 32 := 1#32
  let arg25 : BitVec 32 := Scf.iv c0_i32_14 c1_i32 k0_t1
  let c4_i32 : BitVec 32 := 4#32
  let v70 : BitVec 32 := Scalar.shrsi arg25 c4_i32
  let v93 : Index := Scalar.indexCast v70
  let c3_i32 : BitVec 32 := 3#32
  let v71 : BitVec 32 := Scalar.shrsi arg25 c3_i32
  let c1_i32_40 : BitVec 32 := 1#32
  let v72 : BitVec 32 := Scalar.andi v71 c1_i32_40
  let v94 : Index := Scalar.indexCast v72
  let c3_i32_45 : BitVec 32 := 3#32
  let v95 : Index := Scalar.indexCast c3_i32_45
  let c7_i32 : BitVec 32 := 7#32
  let v73 : BitVec 32 := Scalar.andi arg25 c7_i32
  let c16_i32_41 : BitVec 32 := 16#32
  let v74 : BitVec 32 := Scalar.muli v73 c16_i32_41
  let v96 : Index := Scalar.indexCast v74
  ![v93.toNat, v94.toNat, 3, v96.toNat]
def k0_off17 (k0_t1 : Fin k0_t1_loop.trips) : Fin 3 → Nat :=
  let c0_i32_14 : BitVec 32 := 0#32
  let c1_i32 : BitVec 32 := 1#32
  let arg25 : BitVec 32 := Scf.iv c0_i32_14 c1_i32 k0_t1
  let c4_i32 : BitVec 32 := 4#32
  let v70 : BitVec 32 := Scalar.shrsi arg25 c4_i32
  let v118 : Index := Scalar.indexCast v70
  let c3_i32 : BitVec 32 := 3#32
  let v71 : BitVec 32 := Scalar.shrsi arg25 c3_i32
  let c1_i32_40 : BitVec 32 := 1#32
  let v72 : BitVec 32 := Scalar.andi v71 c1_i32_40
  let v119 : Index := Scalar.indexCast v72
  let c7_i32 : BitVec 32 := 7#32
  let v73 : BitVec 32 := Scalar.andi arg25 c7_i32
  let c16_i32_41 : BitVec 32 := 16#32
  let v74 : BitVec 32 := Scalar.muli v73 c16_i32_41
  let v120 : Index := Scalar.indexCast v74
  ![v118.toNat, v119.toNat, v120.toNat]
def k0_cond8 (i : grid0.Coords) : BitVec 1 :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v38 : BitVec 32 := Scalar.addi c0_i32_17 v1
  let c169_i32_18 : BitVec 32 := 169#32
  let v39 : BitVec 1 := Scalar.cmpi .slt v38 c169_i32_18
  let v40 : BitVec 32 := Scalar.extui v39
  let c0_i32_19 : BitVec 32 := 0#32
  let v41 : BitVec 1 := Scalar.cmpi .ne v40 c0_i32_19
  v41

def k0_off18 (i : grid0.Coords) : Fin 6 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v38 : BitVec 32 := Scalar.addi c0_i32_17 v1
  let c0_i32_40 : BitVec 32 := 0#32
  let v71 : BitVec 1 := Scalar.cmpi .sgt v38 c0_i32_40
  let v72 : BitVec 32 := Scalar.extui v71
  let c0_i32_41 : BitVec 32 := 0#32
  let v73 : BitVec 1 := Scalar.cmpi .slt v38 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v38 c13_i32
  let c0_i32_44 : BitVec 32 := 0#32
  let v83 : BitVec 1 := Scalar.cmpi .ne v82 c0_i32_44
  let v84 : BitVec 1 := Scalar.andi v81 v83
  let v70 : BitVec 32 := Scalar.divsi v38 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v38 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off19 (i : grid0.Coords) : Fin 6 → Nat :=
  let c0_i32_17 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v38 : BitVec 32 := Scalar.addi c0_i32_17 v1
  let c0_i32_60 : BitVec 32 := 0#32
  let v102 : BitVec 1 := Scalar.cmpi .sgt v38 c0_i32_60
  let v103 : BitVec 32 := Scalar.extui v102
  let c0_i32_61 : BitVec 32 := 0#32
  let v104 : BitVec 1 := Scalar.cmpi .slt v38 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v38 c13_i32_59
  let c0_i32_64 : BitVec 32 := 0#32
  let v114 : BitVec 1 := Scalar.cmpi .ne v113 c0_i32_64
  let v115 : BitVec 1 := Scalar.andi v112 v114
  let v101 : BitVec 32 := Scalar.divsi v38 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v38 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond9 (i : grid0.Coords) : BitVec 1 :=
  let c32_i32_20 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v42 : BitVec 32 := Scalar.addi c32_i32_20 v1
  let c169_i32_21 : BitVec 32 := 169#32
  let v43 : BitVec 1 := Scalar.cmpi .slt v42 c169_i32_21
  let v44 : BitVec 32 := Scalar.extui v43
  let c0_i32_22 : BitVec 32 := 0#32
  let v45 : BitVec 1 := Scalar.cmpi .ne v44 c0_i32_22
  v45

def k0_off20 (i : grid0.Coords) : Fin 6 → Nat :=
  let c32_i32_20 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v42 : BitVec 32 := Scalar.addi c32_i32_20 v1
  let c0_i32_40 : BitVec 32 := 0#32
  let v71 : BitVec 1 := Scalar.cmpi .sgt v42 c0_i32_40
  let v72 : BitVec 32 := Scalar.extui v71
  let c0_i32_41 : BitVec 32 := 0#32
  let v73 : BitVec 1 := Scalar.cmpi .slt v42 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v42 c13_i32
  let c0_i32_44 : BitVec 32 := 0#32
  let v83 : BitVec 1 := Scalar.cmpi .ne v82 c0_i32_44
  let v84 : BitVec 1 := Scalar.andi v81 v83
  let v70 : BitVec 32 := Scalar.divsi v42 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v42 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off21 (i : grid0.Coords) : Fin 6 → Nat :=
  let c32_i32_20 : BitVec 32 := 32#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v42 : BitVec 32 := Scalar.addi c32_i32_20 v1
  let c0_i32_60 : BitVec 32 := 0#32
  let v102 : BitVec 1 := Scalar.cmpi .sgt v42 c0_i32_60
  let v103 : BitVec 32 := Scalar.extui v102
  let c0_i32_61 : BitVec 32 := 0#32
  let v104 : BitVec 1 := Scalar.cmpi .slt v42 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v42 c13_i32_59
  let c0_i32_64 : BitVec 32 := 0#32
  let v114 : BitVec 1 := Scalar.cmpi .ne v113 c0_i32_64
  let v115 : BitVec 1 := Scalar.andi v112 v114
  let v101 : BitVec 32 := Scalar.divsi v42 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v42 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond10 (i : grid0.Coords) : BitVec 1 :=
  let c64_i32_23 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.addi c64_i32_23 v1
  let c169_i32_24 : BitVec 32 := 169#32
  let v47 : BitVec 1 := Scalar.cmpi .slt v46 c169_i32_24
  let v48 : BitVec 32 := Scalar.extui v47
  let c0_i32_25 : BitVec 32 := 0#32
  let v49 : BitVec 1 := Scalar.cmpi .ne v48 c0_i32_25
  v49

def k0_off22 (i : grid0.Coords) : Fin 6 → Nat :=
  let c64_i32_23 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.addi c64_i32_23 v1
  let c0_i32_40 : BitVec 32 := 0#32
  let v71 : BitVec 1 := Scalar.cmpi .sgt v46 c0_i32_40
  let v72 : BitVec 32 := Scalar.extui v71
  let c0_i32_41 : BitVec 32 := 0#32
  let v73 : BitVec 1 := Scalar.cmpi .slt v46 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v46 c13_i32
  let c0_i32_44 : BitVec 32 := 0#32
  let v83 : BitVec 1 := Scalar.cmpi .ne v82 c0_i32_44
  let v84 : BitVec 1 := Scalar.andi v81 v83
  let v70 : BitVec 32 := Scalar.divsi v46 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v46 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off23 (i : grid0.Coords) : Fin 6 → Nat :=
  let c64_i32_23 : BitVec 32 := 64#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v46 : BitVec 32 := Scalar.addi c64_i32_23 v1
  let c0_i32_60 : BitVec 32 := 0#32
  let v102 : BitVec 1 := Scalar.cmpi .sgt v46 c0_i32_60
  let v103 : BitVec 32 := Scalar.extui v102
  let c0_i32_61 : BitVec 32 := 0#32
  let v104 : BitVec 1 := Scalar.cmpi .slt v46 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v46 c13_i32_59
  let c0_i32_64 : BitVec 32 := 0#32
  let v114 : BitVec 1 := Scalar.cmpi .ne v113 c0_i32_64
  let v115 : BitVec 1 := Scalar.andi v112 v114
  let v101 : BitVec 32 := Scalar.divsi v46 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v46 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond11 (i : grid0.Coords) : BitVec 1 :=
  let c96_i32_26 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v50 : BitVec 32 := Scalar.addi c96_i32_26 v1
  let c169_i32_27 : BitVec 32 := 169#32
  let v51 : BitVec 1 := Scalar.cmpi .slt v50 c169_i32_27
  let v52 : BitVec 32 := Scalar.extui v51
  let c0_i32_28 : BitVec 32 := 0#32
  let v53 : BitVec 1 := Scalar.cmpi .ne v52 c0_i32_28
  v53

def k0_off24 (i : grid0.Coords) : Fin 6 → Nat :=
  let c96_i32_26 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v50 : BitVec 32 := Scalar.addi c96_i32_26 v1
  let c0_i32_40 : BitVec 32 := 0#32
  let v71 : BitVec 1 := Scalar.cmpi .sgt v50 c0_i32_40
  let v72 : BitVec 32 := Scalar.extui v71
  let c0_i32_41 : BitVec 32 := 0#32
  let v73 : BitVec 1 := Scalar.cmpi .slt v50 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v50 c13_i32
  let c0_i32_44 : BitVec 32 := 0#32
  let v83 : BitVec 1 := Scalar.cmpi .ne v82 c0_i32_44
  let v84 : BitVec 1 := Scalar.andi v81 v83
  let v70 : BitVec 32 := Scalar.divsi v50 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v50 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off25 (i : grid0.Coords) : Fin 6 → Nat :=
  let c96_i32_26 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v50 : BitVec 32 := Scalar.addi c96_i32_26 v1
  let c0_i32_60 : BitVec 32 := 0#32
  let v102 : BitVec 1 := Scalar.cmpi .sgt v50 c0_i32_60
  let v103 : BitVec 32 := Scalar.extui v102
  let c0_i32_61 : BitVec 32 := 0#32
  let v104 : BitVec 1 := Scalar.cmpi .slt v50 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v50 c13_i32_59
  let c0_i32_64 : BitVec 32 := 0#32
  let v114 : BitVec 1 := Scalar.cmpi .ne v113 c0_i32_64
  let v115 : BitVec 1 := Scalar.andi v112 v114
  let v101 : BitVec 32 := Scalar.divsi v50 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v50 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond12 (i : grid0.Coords) : BitVec 1 :=
  let c128_i32_29 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v54 : BitVec 32 := Scalar.addi c128_i32_29 v1
  let c169_i32_30 : BitVec 32 := 169#32
  let v55 : BitVec 1 := Scalar.cmpi .slt v54 c169_i32_30
  let v56 : BitVec 32 := Scalar.extui v55
  let c0_i32_31 : BitVec 32 := 0#32
  let v57 : BitVec 1 := Scalar.cmpi .ne v56 c0_i32_31
  v57

def k0_off26 (i : grid0.Coords) : Fin 6 → Nat :=
  let c128_i32_29 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v54 : BitVec 32 := Scalar.addi c128_i32_29 v1
  let c0_i32_40 : BitVec 32 := 0#32
  let v71 : BitVec 1 := Scalar.cmpi .sgt v54 c0_i32_40
  let v72 : BitVec 32 := Scalar.extui v71
  let c0_i32_41 : BitVec 32 := 0#32
  let v73 : BitVec 1 := Scalar.cmpi .slt v54 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v54 c13_i32
  let c0_i32_44 : BitVec 32 := 0#32
  let v83 : BitVec 1 := Scalar.cmpi .ne v82 c0_i32_44
  let v84 : BitVec 1 := Scalar.andi v81 v83
  let v70 : BitVec 32 := Scalar.divsi v54 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v54 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off27 (i : grid0.Coords) : Fin 6 → Nat :=
  let c128_i32_29 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v54 : BitVec 32 := Scalar.addi c128_i32_29 v1
  let c0_i32_60 : BitVec 32 := 0#32
  let v102 : BitVec 1 := Scalar.cmpi .sgt v54 c0_i32_60
  let v103 : BitVec 32 := Scalar.extui v102
  let c0_i32_61 : BitVec 32 := 0#32
  let v104 : BitVec 1 := Scalar.cmpi .slt v54 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v54 c13_i32_59
  let c0_i32_64 : BitVec 32 := 0#32
  let v114 : BitVec 1 := Scalar.cmpi .ne v113 c0_i32_64
  let v115 : BitVec 1 := Scalar.andi v112 v114
  let v101 : BitVec 32 := Scalar.divsi v54 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v54 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
def k0_cond13 (i : grid0.Coords) : BitVec 1 :=
  let c160_i32_32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v58 : BitVec 32 := Scalar.addi c160_i32_32 v1
  let c169_i32_33 : BitVec 32 := 169#32
  let v59 : BitVec 1 := Scalar.cmpi .slt v58 c169_i32_33
  let v60 : BitVec 32 := Scalar.extui v59
  let c0_i32_34 : BitVec 32 := 0#32
  let v61 : BitVec 1 := Scalar.cmpi .ne v60 c0_i32_34
  v61

def k0_off28 (i : grid0.Coords) : Fin 6 → Nat :=
  let c160_i32_32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v58 : BitVec 32 := Scalar.addi c160_i32_32 v1
  let c0_i32_40 : BitVec 32 := 0#32
  let v71 : BitVec 1 := Scalar.cmpi .sgt v58 c0_i32_40
  let v72 : BitVec 32 := Scalar.extui v71
  let c0_i32_41 : BitVec 32 := 0#32
  let v73 : BitVec 1 := Scalar.cmpi .slt v58 c0_i32_41
  let v74 : BitVec 32 := Scalar.extui v73
  let v75 : BitVec 32 := Scalar.subi v72 v74
  let c13_i32 : BitVec 32 := 13#32
  let c0_i32_42 : BitVec 32 := 0#32
  let v76 : BitVec 1 := Scalar.cmpi .sgt c13_i32 c0_i32_42
  let v77 : BitVec 32 := Scalar.extui v76
  let c0_i32_43 : BitVec 32 := 0#32
  let v78 : BitVec 1 := Scalar.cmpi .slt c13_i32 c0_i32_43
  let v79 : BitVec 32 := Scalar.extui v78
  let v80 : BitVec 32 := Scalar.subi v77 v79
  let v81 : BitVec 1 := Scalar.cmpi .ne v75 v80
  let v82 : BitVec 32 := Scalar.remsi v58 c13_i32
  let c0_i32_44 : BitVec 32 := 0#32
  let v83 : BitVec 1 := Scalar.cmpi .ne v82 c0_i32_44
  let v84 : BitVec 1 := Scalar.andi v81 v83
  let v70 : BitVec 32 := Scalar.divsi v58 c13_i32
  let c1_i32_45 : BitVec 32 := 1#32
  let v85 : BitVec 32 := Scalar.subi v70 c1_i32_45
  let v86 : BitVec 32 := Scalar.select v84 v85 v70
  let c13_i32_46 : BitVec 32 := 13#32
  let c0_i32_47 : BitVec 32 := 0#32
  let v87 : BitVec 1 := Scalar.cmpi .eq c13_i32_46 c0_i32_47
  let c1_i32_48 : BitVec 32 := 1#32
  let v88 : BitVec 32 := Scalar.select v87 c1_i32_48 c13_i32_46
  let v89 : BitVec 32 := Scalar.remsi v58 v88
  let c0_i32_50 : BitVec 32 := 0#32
  let v91 : BitVec 1 := Scalar.cmpi .slt v89 c0_i32_50
  let c0_i32_51 : BitVec 32 := 0#32
  let v92 : BitVec 1 := Scalar.cmpi .slt v88 c0_i32_51
  let v93 : BitVec 1 := Scalar.xori v91 v92
  let c0_i32_49 : BitVec 32 := 0#32
  let v90 : BitVec 1 := Scalar.cmpi .ne v89 c0_i32_49
  let v94 : BitVec 1 := Scalar.andi v93 v90
  let v95 : BitVec 32 := Scalar.addi v89 v88
  let v96 : BitVec 32 := Scalar.select v94 v95 v89
  let c0_i32_53 : BitVec 32 := 0#32
  let c0_i32_54 : BitVec 32 := 0#32
  let c0_i32_52 : BitVec 32 := 0#32
  let c0_i32_55 : BitVec 32 := 0#32
  ![v86.toNat, v96.toNat, 0, 0, 0, 0]
def k0_off29 (i : grid0.Coords) : Fin 6 → Nat :=
  let c160_i32_32 : BitVec 32 := 160#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v58 : BitVec 32 := Scalar.addi c160_i32_32 v1
  let c0_i32_60 : BitVec 32 := 0#32
  let v102 : BitVec 1 := Scalar.cmpi .sgt v58 c0_i32_60
  let v103 : BitVec 32 := Scalar.extui v102
  let c0_i32_61 : BitVec 32 := 0#32
  let v104 : BitVec 1 := Scalar.cmpi .slt v58 c0_i32_61
  let v105 : BitVec 32 := Scalar.extui v104
  let v106 : BitVec 32 := Scalar.subi v103 v105
  let c13_i32_59 : BitVec 32 := 13#32
  let c0_i32_62 : BitVec 32 := 0#32
  let v107 : BitVec 1 := Scalar.cmpi .sgt c13_i32_59 c0_i32_62
  let v108 : BitVec 32 := Scalar.extui v107
  let c0_i32_63 : BitVec 32 := 0#32
  let v109 : BitVec 1 := Scalar.cmpi .slt c13_i32_59 c0_i32_63
  let v110 : BitVec 32 := Scalar.extui v109
  let v111 : BitVec 32 := Scalar.subi v108 v110
  let v112 : BitVec 1 := Scalar.cmpi .ne v106 v111
  let v113 : BitVec 32 := Scalar.remsi v58 c13_i32_59
  let c0_i32_64 : BitVec 32 := 0#32
  let v114 : BitVec 1 := Scalar.cmpi .ne v113 c0_i32_64
  let v115 : BitVec 1 := Scalar.andi v112 v114
  let v101 : BitVec 32 := Scalar.divsi v58 c13_i32_59
  let c1_i32_65 : BitVec 32 := 1#32
  let v116 : BitVec 32 := Scalar.subi v101 c1_i32_65
  let v117 : BitVec 32 := Scalar.select v115 v116 v101
  let c13_i32_66 : BitVec 32 := 13#32
  let c0_i32_67 : BitVec 32 := 0#32
  let v118 : BitVec 1 := Scalar.cmpi .eq c13_i32_66 c0_i32_67
  let c1_i32_68 : BitVec 32 := 1#32
  let v119 : BitVec 32 := Scalar.select v118 c1_i32_68 c13_i32_66
  let v120 : BitVec 32 := Scalar.remsi v58 v119
  let c0_i32_70 : BitVec 32 := 0#32
  let v122 : BitVec 1 := Scalar.cmpi .slt v120 c0_i32_70
  let c0_i32_71 : BitVec 32 := 0#32
  let v123 : BitVec 1 := Scalar.cmpi .slt v119 c0_i32_71
  let v124 : BitVec 1 := Scalar.xori v122 v123
  let c0_i32_69 : BitVec 32 := 0#32
  let v121 : BitVec 1 := Scalar.cmpi .ne v120 c0_i32_69
  let v125 : BitVec 1 := Scalar.andi v124 v121
  let v126 : BitVec 32 := Scalar.addi v120 v119
  let v127 : BitVec 32 := Scalar.select v125 v126 v120
  let c4_i32 : BitVec 32 := 4#32
  let c0_i32_73 : BitVec 32 := 0#32
  let c1_i32_72 : BitVec 32 := 1#32
  let c0_i32_74 : BitVec 32 := 0#32
  ![v117.toNat, v127.toNat, 4, 0, 1, 0]
@[reducible] def k0_t2_loop : Scf.Loop 32 :=
  let c0_i32_35 : BitVec 32 := 0#32
  let c16_i32 : BitVec 32 := 16#32
  let v62 : BitVec 32 := Scalar.addi c0_i32_35 c16_i32
  let c1_i32_36 : BitVec 32 := 1#32
  ⟨c0_i32_35, v62, c1_i32_36⟩
def k0_off30 (k0_t2 : Fin k0_t2_loop.trips) : Fin 3 → Nat :=
  let c0_i32_41 : BitVec 32 := 0#32
  let v73 : Index := Scalar.indexCast c0_i32_41
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v74 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v75 : Index := Scalar.indexCast v72
  ![0, v74.toNat, v75.toNat]
def k0_off31 (k0_t2 : Fin k0_t2_loop.trips) : Fin 3 → Nat :=
  let c1_i32_42 : BitVec 32 := 1#32
  let v78 : Index := Scalar.indexCast c1_i32_42
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v79 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v80 : Index := Scalar.indexCast v72
  ![1, v79.toNat, v80.toNat]
def k0_off32 (k0_t2 : Fin k0_t2_loop.trips) : Fin 3 → Nat :=
  let c2_i32_43 : BitVec 32 := 2#32
  let v83 : Index := Scalar.indexCast c2_i32_43
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v84 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v85 : Index := Scalar.indexCast v72
  ![2, v84.toNat, v85.toNat]
def k0_off33 (k0_t2 : Fin k0_t2_loop.trips) : Fin 3 → Nat :=
  let c3_i32_44 : BitVec 32 := 3#32
  let v88 : Index := Scalar.indexCast c3_i32_44
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v89 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v90 : Index := Scalar.indexCast v72
  ![3, v89.toNat, v90.toNat]
def k0_off34 (k0_t2 : Fin k0_t2_loop.trips) : Fin 3 → Nat :=
  let c4_i32 : BitVec 32 := 4#32
  let v93 : Index := Scalar.indexCast c4_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v94 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v95 : Index := Scalar.indexCast v72
  ![4, v94.toNat, v95.toNat]
def k0_off35 (k0_t2 : Fin k0_t2_loop.trips) : Fin 3 → Nat :=
  let c5_i32 : BitVec 32 := 5#32
  let v98 : Index := Scalar.indexCast c5_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v99 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v100 : Index := Scalar.indexCast v72
  ![5, v99.toNat, v100.toNat]
def k0_off36 (k0_t2 : Fin k0_t2_loop.trips) : Fin 3 → Nat :=
  let c6_i32 : BitVec 32 := 6#32
  let v103 : Index := Scalar.indexCast c6_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v104 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v105 : Index := Scalar.indexCast v72
  ![6, v104.toNat, v105.toNat]
def k0_off37 (k0_t2 : Fin k0_t2_loop.trips) : Fin 3 → Nat :=
  let c7_i32_45 : BitVec 32 := 7#32
  let v108 : Index := Scalar.indexCast c7_i32_45
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v109 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v110 : Index := Scalar.indexCast v72
  ![7, v109.toNat, v110.toNat]
def k0_off38 (k0_t2 : Fin k0_t2_loop.trips) : Fin 3 → Nat :=
  let c4_i32_79 : BitVec 32 := 4#32
  let v274 : Index := Scalar.indexCast c4_i32_79
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v275 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v276 : Index := Scalar.indexCast v72
  ![4, v275.toNat, v276.toNat]
def k0_off39 (k0_t2 : Fin k0_t2_loop.trips) : Fin 2 → Nat :=
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v279 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v280 : Index := Scalar.indexCast v72
  ![v279.toNat, v280.toNat]
def k0_off40 (k0_t2 : Fin k0_t2_loop.trips) : Fin 3 → Nat :=
  let c0_i32_81 : BitVec 32 := 0#32
  let v345 : Index := Scalar.indexCast c0_i32_81
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v346 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v347 : Index := Scalar.indexCast v72
  ![0, v346.toNat, v347.toNat]
def k0_off41 (k0_t2 : Fin k0_t2_loop.trips) : Fin 3 → Nat :=
  let c1_i32_82 : BitVec 32 := 1#32
  let v353 : Index := Scalar.indexCast c1_i32_82
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v354 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v355 : Index := Scalar.indexCast v72
  ![1, v354.toNat, v355.toNat]
def k0_off42 (k0_t2 : Fin k0_t2_loop.trips) : Fin 3 → Nat :=
  let c2_i32_83 : BitVec 32 := 2#32
  let v361 : Index := Scalar.indexCast c2_i32_83
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v362 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v363 : Index := Scalar.indexCast v72
  ![2, v362.toNat, v363.toNat]
def k0_off43 (k0_t2 : Fin k0_t2_loop.trips) : Fin 3 → Nat :=
  let c3_i32_84 : BitVec 32 := 3#32
  let v369 : Index := Scalar.indexCast c3_i32_84
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v370 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v371 : Index := Scalar.indexCast v72
  ![3, v370.toNat, v371.toNat]
def k0_off44 (k0_t2 : Fin k0_t2_loop.trips) : Fin 3 → Nat :=
  let c5_i32_88 : BitVec 32 := 5#32
  let v386 : Index := Scalar.indexCast c5_i32_88
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v387 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v388 : Index := Scalar.indexCast v72
  ![5, v387.toNat, v388.toNat]
def k0_off45 (k0_t2 : Fin k0_t2_loop.trips) : Fin 3 → Nat :=
  let c6_i32_89 : BitVec 32 := 6#32
  let v393 : Index := Scalar.indexCast c6_i32_89
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v394 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v395 : Index := Scalar.indexCast v72
  ![6, v394.toNat, v395.toNat]
def k0_off46 (k0_t2 : Fin k0_t2_loop.trips) : Fin 3 → Nat :=
  let c7_i32_90 : BitVec 32 := 7#32
  let v400 : Index := Scalar.indexCast c7_i32_90
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v401 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v402 : Index := Scalar.indexCast v72
  ![7, v401.toNat, v402.toNat]
def k0_off47 (k0_t2 : Fin k0_t2_loop.trips) : Fin 3 → Nat :=
  let c8_i32 : BitVec 32 := 8#32
  let v407 : Index := Scalar.indexCast c8_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v408 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v409 : Index := Scalar.indexCast v72
  ![8, v408.toNat, v409.toNat]
def k0_off48 (k0_t2 : Fin k0_t2_loop.trips) : Fin 3 → Nat :=
  let c9_i32 : BitVec 32 := 9#32
  let v414 : Index := Scalar.indexCast c9_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v415 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v416 : Index := Scalar.indexCast v72
  ![9, v415.toNat, v416.toNat]
def k0_off49 (k0_t2 : Fin k0_t2_loop.trips) : Fin 3 → Nat :=
  let c10_i32 : BitVec 32 := 10#32
  let v421 : Index := Scalar.indexCast c10_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v422 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v423 : Index := Scalar.indexCast v72
  ![10, v422.toNat, v423.toNat]
def k0_off50 (k0_t2 : Fin k0_t2_loop.trips) : Fin 3 → Nat :=
  let c11_i32 : BitVec 32 := 11#32
  let v428 : Index := Scalar.indexCast c11_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v429 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v430 : Index := Scalar.indexCast v72
  ![11, v429.toNat, v430.toNat]
def k0_off51 (k0_t2 : Fin k0_t2_loop.trips) : Fin 3 → Nat :=
  let c12_i32 : BitVec 32 := 12#32
  let v435 : Index := Scalar.indexCast c12_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v436 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v437 : Index := Scalar.indexCast v72
  ![12, v436.toNat, v437.toNat]
def k0_off52 (k0_t2 : Fin k0_t2_loop.trips) : Fin 3 → Nat :=
  let c13_i32 : BitVec 32 := 13#32
  let v442 : Index := Scalar.indexCast c13_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v443 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v444 : Index := Scalar.indexCast v72
  ![13, v443.toNat, v444.toNat]
def k0_off53 (k0_t2 : Fin k0_t2_loop.trips) : Fin 3 → Nat :=
  let c14_i32 : BitVec 32 := 14#32
  let v449 : Index := Scalar.indexCast c14_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v450 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v451 : Index := Scalar.indexCast v72
  ![14, v450.toNat, v451.toNat]
def k0_off54 (k0_t2 : Fin k0_t2_loop.trips) : Fin 3 → Nat :=
  let c15_i32 : BitVec 32 := 15#32
  let v456 : Index := Scalar.indexCast c15_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v457 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v458 : Index := Scalar.indexCast v72
  ![15, v457.toNat, v458.toNat]
def k0_off55 (k0_t2 : Fin k0_t2_loop.trips) : Fin 3 → Nat :=
  let c16_i32_91 : BitVec 32 := 16#32
  let v463 : Index := Scalar.indexCast c16_i32_91
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v464 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v465 : Index := Scalar.indexCast v72
  ![16, v464.toNat, v465.toNat]
def k0_off56 (k0_t2 : Fin k0_t2_loop.trips) : Fin 3 → Nat :=
  let c17_i32 : BitVec 32 := 17#32
  let v470 : Index := Scalar.indexCast c17_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v471 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v472 : Index := Scalar.indexCast v72
  ![17, v471.toNat, v472.toNat]
def k0_off57 (k0_t2 : Fin k0_t2_loop.trips) : Fin 3 → Nat :=
  let c18_i32 : BitVec 32 := 18#32
  let v477 : Index := Scalar.indexCast c18_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v478 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v479 : Index := Scalar.indexCast v72
  ![18, v478.toNat, v479.toNat]
def k0_off58 (k0_t2 : Fin k0_t2_loop.trips) : Fin 3 → Nat :=
  let c19_i32 : BitVec 32 := 19#32
  let v484 : Index := Scalar.indexCast c19_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v485 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v486 : Index := Scalar.indexCast v72
  ![19, v485.toNat, v486.toNat]
def k0_off59 (k0_t2 : Fin k0_t2_loop.trips) : Fin 3 → Nat :=
  let c20_i32 : BitVec 32 := 20#32
  let v491 : Index := Scalar.indexCast c20_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v492 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v493 : Index := Scalar.indexCast v72
  ![20, v492.toNat, v493.toNat]
def k0_off60 (k0_t2 : Fin k0_t2_loop.trips) : Fin 3 → Nat :=
  let c21_i32 : BitVec 32 := 21#32
  let v498 : Index := Scalar.indexCast c21_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v499 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v500 : Index := Scalar.indexCast v72
  ![21, v499.toNat, v500.toNat]
def k0_off61 (k0_t2 : Fin k0_t2_loop.trips) : Fin 3 → Nat :=
  let c22_i32 : BitVec 32 := 22#32
  let v505 : Index := Scalar.indexCast c22_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v506 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v507 : Index := Scalar.indexCast v72
  ![22, v506.toNat, v507.toNat]
def k0_off62 (k0_t2 : Fin k0_t2_loop.trips) : Fin 3 → Nat :=
  let c23_i32 : BitVec 32 := 23#32
  let v512 : Index := Scalar.indexCast c23_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v513 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v514 : Index := Scalar.indexCast v72
  ![23, v513.toNat, v514.toNat]
def k0_off63 (k0_t2 : Fin k0_t2_loop.trips) : Fin 3 → Nat :=
  let c24_i32 : BitVec 32 := 24#32
  let v519 : Index := Scalar.indexCast c24_i32
  let c0_i32_35 : BitVec 32 := 0#32
  let c1_i32_36 : BitVec 32 := 1#32
  let arg25 : BitVec 32 := Scf.iv c0_i32_35 c1_i32_36 k0_t2
  let c3_i32 : BitVec 32 := 3#32
  let v70 : BitVec 32 := Scalar.shrsi arg25 c3_i32
  let v520 : Index := Scalar.indexCast v70
  let c7_i32 : BitVec 32 := 7#32
  let v71 : BitVec 32 := Scalar.andi arg25 c7_i32
  let c16_i32_40 : BitVec 32 := 16#32
  let v72 : BitVec 32 := Scalar.muli v71 c16_i32_40
  let v521 : Index := Scalar.indexCast v72
  ![24, v520.toNat, v521.toNat]
def k0_off64 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_40_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S256x13x13x2x25 : Shape := ⟨5, ![256, 13, 13, 2, 25]⟩
abbrev S256x8x4 : Shape := ⟨3, ![256, 8, 4]⟩
abbrev S256x8 : Shape := ⟨2, ![256, 8]⟩
abbrev S256x8x1 : Shape := ⟨3, ![256, 8, 1]⟩
abbrev S_ : Shape := ⟨0, ![]⟩
abbrev S2048 : Shape := ⟨1, ![2048]⟩
abbrev S256 : Shape := ⟨1, ![256]⟩
abbrev S2048x1 : Shape := ⟨2, ![2048, 1]⟩
abbrev S2048x5 : Shape := ⟨2, ![2048, 5]⟩
abbrev S256x13x13x2x1 : Shape := ⟨5, ![256, 13, 13, 2, 1]⟩
abbrev S256x13x13x2 : Shape := ⟨4, ![256, 13, 13, 2]⟩
abbrev S256x13x13x2x4 : Shape := ⟨5, ![256, 13, 13, 2, 4]⟩
abbrev S256x13x13x2x20 : Shape := ⟨5, ![256, 13, 13, 2, 20]⟩

abbrev nBuf : Space → Nat
  | .hbm => 274
  | .vmem => 0
  | .smem => 0
  | _ => 0

abbrev hbmTy0_0 (i : Nat) : BufTy := match i % 128 with
  | 0 => ⟨S256x13x13x2x25, .f32⟩
  | 1 => ⟨S256x8x4, .f32⟩
  | 2 => ⟨S256x8, .i32⟩
  | 3 => ⟨S256x8x1, .f32⟩
  | 4 => ⟨S256x8, .f32⟩
  | 5 => ⟨S256x8x1, .f32⟩
  | 6 => ⟨S256x8, .f32⟩
  | 7 => ⟨S256x8, .f32⟩
  | 8 => ⟨S_, .f32⟩
  | 9 => ⟨S256x8, .f32⟩
  | 10 => ⟨S256x8, .f32⟩
  | 11 => ⟨S256x8x1, .f32⟩
  | 12 => ⟨S256x8, .f32⟩
  | 13 => ⟨S256x8x1, .f32⟩
  | 14 => ⟨S256x8, .f32⟩
  | 15 => ⟨S256x8, .f32⟩
  | 16 => ⟨S_, .f32⟩
  | 17 => ⟨S256x8, .f32⟩
  | 18 => ⟨S256x8, .f32⟩
  | 19 => ⟨S_, .f32⟩
  | 20 => ⟨S256x8, .f32⟩
  | 21 => ⟨S256x8, .f32⟩
  | 22 => ⟨S_, .f32⟩
  | 23 => ⟨S256x8, .f32⟩
  | 24 => ⟨S256x8, .f32⟩
  | 25 => ⟨S_, .f32⟩
  | 26 => ⟨S256x8, .f32⟩
  | 27 => ⟨S256x8, .f32⟩
  | 28 => ⟨S_, .f32⟩
  | 29 => ⟨S256x8, .f32⟩
  | 30 => ⟨S256x8, .f32⟩
  | 31 => ⟨S256x8, .f32⟩
  | 32 => ⟨S256x8, .f32⟩
  | 33 => ⟨S256x8, .f32⟩
  | 34 => ⟨S256x8, .f32⟩
  | 35 => ⟨S256x8x1, .f32⟩
  | 36 => ⟨S256x8, .f32⟩
  | 37 => ⟨S256x8x1, .f32⟩
  | 38 => ⟨S256x8, .f32⟩
  | 39 => ⟨S256x8, .f32⟩
  | 40 => ⟨S_, .f32⟩
  | 41 => ⟨S256x8, .f32⟩
  | 42 => ⟨S256x8, .f32⟩
  | 43 => ⟨S256x8x1, .f32⟩
  | 44 => ⟨S256x8, .f32⟩
  | 45 => ⟨S256x8x1, .f32⟩
  | 46 => ⟨S256x8, .f32⟩
  | 47 => ⟨S256x8, .f32⟩
  | 48 => ⟨S_, .f32⟩
  | 49 => ⟨S256x8, .f32⟩
  | 50 => ⟨S256x8, .f32⟩
  | 51 => ⟨S256x8, .i32⟩
  | 52 => ⟨S2048, .i32⟩
  | 53 => ⟨S256x8, .i32⟩
  | 54 => ⟨S2048, .i32⟩
  | 55 => ⟨S256, .i32⟩
  | 56 => ⟨S256x8, .i32⟩
  | 57 => ⟨S2048, .i32⟩
  | 58 => ⟨S_, .f32⟩
  | 59 => ⟨S256x13x13x2x25, .f32⟩
  | 60 => ⟨S2048, .f32⟩
  | 61 => ⟨S_, .i32⟩
  | 62 => ⟨S2048, .i32⟩
  | 63 => ⟨S2048, .i1⟩
  | 64 => ⟨S_, .i32⟩
  | 65 => ⟨S2048, .i32⟩
  | 66 => ⟨S2048, .i32⟩
  | 67 => ⟨S2048, .i32⟩
  | 68 => ⟨S_, .i32⟩
  | 69 => ⟨S2048, .i32⟩
  | 70 => ⟨S2048, .i1⟩
  | 71 => ⟨S_, .i32⟩
  | 72 => ⟨S2048, .i32⟩
  | 73 => ⟨S2048, .i32⟩
  | 74 => ⟨S2048, .i32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S_, .i32⟩
  | 83 => ⟨S2048, .i32⟩
  | 84 => ⟨S_, .i32⟩
  | 85 => ⟨S2048, .i32⟩
  | 86 => ⟨S2048, .i32⟩
  | 87 => ⟨S2048, .i32⟩
  | 88 => ⟨S2048x1, .i32⟩
  | 89 => ⟨S2048x1, .i32⟩
  | 90 => ⟨S2048x1, .i32⟩
  | 91 => ⟨S2048x1, .i32⟩
  | 92 => ⟨S2048x1, .i32⟩
  | 93 => ⟨S2048x5, .i32⟩
  | 94 => ⟨S256x13x13x2x25, .f32⟩
  | 95 => ⟨S2048, .f32⟩
  | 96 => ⟨S_, .i32⟩
  | 97 => ⟨S2048, .i32⟩
  | 98 => ⟨S2048, .i1⟩
  | 99 => ⟨S_, .i32⟩
  | 100 => ⟨S2048, .i32⟩
  | 101 => ⟨S2048, .i32⟩
  | 102 => ⟨S2048, .i32⟩
  | 103 => ⟨S_, .i32⟩
  | 104 => ⟨S2048, .i32⟩
  | 105 => ⟨S2048, .i1⟩
  | 106 => ⟨S_, .i32⟩
  | 107 => ⟨S2048, .i32⟩
  | 108 => ⟨S2048, .i32⟩
  | 109 => ⟨S2048, .i32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S_, .i32⟩
  | 118 => ⟨S2048, .i32⟩
  | 119 => ⟨S_, .i32⟩
  | 120 => ⟨S2048, .i32⟩
  | 121 => ⟨S2048, .i32⟩
  | 122 => ⟨S2048, .i32⟩
  | 123 => ⟨S2048x1, .i32⟩
  | 124 => ⟨S2048x1, .i32⟩
  | 125 => ⟨S2048x1, .i32⟩
  | 126 => ⟨S2048x1, .i32⟩
  | 127 => ⟨S2048x1, .i32⟩
  | _ => ⟨S256x13x13x2x25, .f32⟩

abbrev hbmTy0_1 (i : Nat) : BufTy := match i % 128 with
  | 0 => ⟨S2048x5, .i32⟩
  | 1 => ⟨S256x13x13x2x25, .f32⟩
  | 2 => ⟨S2048, .f32⟩
  | 3 => ⟨S_, .i32⟩
  | 4 => ⟨S2048, .i32⟩
  | 5 => ⟨S2048, .i1⟩
  | 6 => ⟨S_, .i32⟩
  | 7 => ⟨S2048, .i32⟩
  | 8 => ⟨S2048, .i32⟩
  | 9 => ⟨S2048, .i32⟩
  | 10 => ⟨S_, .i32⟩
  | 11 => ⟨S2048, .i32⟩
  | 12 => ⟨S2048, .i1⟩
  | 13 => ⟨S_, .i32⟩
  | 14 => ⟨S2048, .i32⟩
  | 15 => ⟨S2048, .i32⟩
  | 16 => ⟨S2048, .i32⟩
  | 17 => ⟨S_, .i32⟩
  | 18 => ⟨S2048, .i32⟩
  | 19 => ⟨S2048, .i1⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S_, .i32⟩
  | 27 => ⟨S2048, .i32⟩
  | 28 => ⟨S2048, .i32⟩
  | 29 => ⟨S2048, .i32⟩
  | 30 => ⟨S2048x1, .i32⟩
  | 31 => ⟨S2048x1, .i32⟩
  | 32 => ⟨S2048x1, .i32⟩
  | 33 => ⟨S2048x1, .i32⟩
  | 34 => ⟨S2048x1, .i32⟩
  | 35 => ⟨S2048x5, .i32⟩
  | 36 => ⟨S256x13x13x2x25, .f32⟩
  | 37 => ⟨S2048, .f32⟩
  | 38 => ⟨S_, .i32⟩
  | 39 => ⟨S2048, .i32⟩
  | 40 => ⟨S2048, .i1⟩
  | 41 => ⟨S_, .i32⟩
  | 42 => ⟨S2048, .i32⟩
  | 43 => ⟨S2048, .i32⟩
  | 44 => ⟨S2048, .i32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S_, .i32⟩
  | 53 => ⟨S2048, .i32⟩
  | 54 => ⟨S2048, .i1⟩
  | 55 => ⟨S_, .i32⟩
  | 56 => ⟨S2048, .i32⟩
  | 57 => ⟨S2048, .i32⟩
  | 58 => ⟨S2048, .i32⟩
  | 59 => ⟨S_, .i32⟩
  | 60 => ⟨S2048, .i32⟩
  | 61 => ⟨S_, .i32⟩
  | 62 => ⟨S2048, .i32⟩
  | 63 => ⟨S2048, .i32⟩
  | 64 => ⟨S2048, .i32⟩
  | 65 => ⟨S2048x1, .i32⟩
  | 66 => ⟨S2048x1, .i32⟩
  | 67 => ⟨S2048x1, .i32⟩
  | 68 => ⟨S2048x1, .i32⟩
  | 69 => ⟨S2048x1, .i32⟩
  | 70 => ⟨S2048x5, .i32⟩
  | 71 => ⟨S256x13x13x2x25, .f32⟩
  | 72 => ⟨S_, .i32⟩
  | 73 => ⟨S2048, .i32⟩
  | 74 => ⟨S2048, .i1⟩
  | 75 => ⟨S_, .i32⟩
  | 76 => ⟨S2048, .i32⟩
  | 77 => ⟨S2048, .i32⟩
  | 78 => ⟨S2048, .i32⟩
  | 79 => ⟨S_, .i32⟩
  | 80 => ⟨S2048, .i32⟩
  | 81 => ⟨S2048, .i1⟩
  | 82 => ⟨S_, .i32⟩
  | 83 => ⟨S2048, .i32⟩
  | 84 => ⟨S2048, .i32⟩
  | 85 => ⟨S2048, .i32⟩
  | 86 => ⟨S_, .i32⟩
  | 87 => ⟨S2048, .i32⟩
  | 88 => ⟨S2048, .i1⟩
  | 89 => ⟨S_, .i32⟩
  | 90 => ⟨S2048, .i32⟩
  | 91 => ⟨S2048, .i32⟩
  | 92 => ⟨S2048, .i32⟩
  | 93 => ⟨S_, .i32⟩
  | 94 => ⟨S2048, .i32⟩
  | 95 => ⟨S_, .i32⟩
  | 96 => ⟨S2048, .i32⟩
  | 97 => ⟨S2048, .i32⟩
  | 98 => ⟨S2048, .i32⟩
  | 99 => ⟨S2048x1, .i32⟩
  | 100 => ⟨S2048x1, .i32⟩
  | 101 => ⟨S2048x1, .i32⟩
  | 102 => ⟨S2048x1, .i32⟩
  | 103 => ⟨S2048x1, .i32⟩
  | 104 => ⟨S2048x5, .i32⟩
  | 105 => ⟨S_, .f32⟩
  | 106 => ⟨S2048, .f32⟩
  | 107 => ⟨S256x13x13x2x25, .f32⟩
  | 108 => ⟨S256x13x13x2x1, .f32⟩
  | 109 => ⟨S256x13x13x2, .f32⟩
  | 110 => ⟨S_, .f32⟩
  | 111 => ⟨S256x13x13x2, .f32⟩
  | 112 => ⟨S256x13x13x2, .i1⟩
  | 113 => ⟨S256x13x13x2, .f32⟩
  | 114 => ⟨S256x13x13x2x1, .f32⟩
  | 115 => ⟨S256x13x13x2x4, .f32⟩
  | 116 => ⟨S256x13x13x2x4, .f32⟩
  | 117 => ⟨S256x13x13x2x4, .f32⟩
  | 118 => ⟨S256x13x13x2x4, .f32⟩
  | 119 => ⟨S256x13x13x2x4, .f32⟩
  | 120 => ⟨S256x13x13x2x4, .f32⟩
  | 121 => ⟨S_, .f32⟩
  | 122 => ⟨S_, .f32⟩
  | 123 => ⟨S_, .f32⟩
  | 124 => ⟨S_, .f32⟩
  | 125 => ⟨S256x13x13x2x1, .f32⟩
  | 126 => ⟨S256x13x13x2, .f32⟩
  | 127 => ⟨S256x13x13x2x1, .f32⟩
  | _ => ⟨S256x13x13x2x25, .f32⟩

abbrev hbmTy0_2 (i : Nat) : BufTy := match i % 128 with
  | 0 => ⟨S256x13x13x2, .f32⟩
  | 1 => ⟨S256x13x13x2, .f32⟩
  | 2 => ⟨S256x13x13x2, .f32⟩
  | 3 => ⟨S_, .f32⟩
  | 4 => ⟨S_, .f32⟩
  | 5 => ⟨S256x13x13x2x1, .f32⟩
  | 6 => ⟨S256x13x13x2x20, .f32⟩
  | 7 => ⟨S256x13x13x2x20, .f32⟩
  | 8 => ⟨S256x13x13x2x20, .f32⟩
  | 9 => ⟨S256x13x13x2x20, .f32⟩
  | 10 => ⟨S256x13x13x2x20, .f32⟩
  | 11 => ⟨S256x13x13x2x20, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | _ => ⟨S256x13x13x2x25, .f32⟩

abbrev hbmTy (i : Nat) : BufTy := match i / 128 with
  | 0 => hbmTy0_0 i
  | 1 => hbmTy0_1 i
  | 2 => hbmTy0_2 i
  | _ => ⟨S256x13x13x2x25, .f32⟩

abbrev bufTy : (tb : Table) → Fin (tcTables nBuf tb) → BufTy
  | .hbm, ⟨i, _⟩ => hbmTy i
  | _, _ => ⟨S256x13x13x2x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_5 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_c : Ref sig .tc := ⟨.hbm, 61, rfl⟩
abbrev main_v49 : Ref sig .tc := ⟨.hbm, 62, rfl⟩
abbrev main_v50 : Ref sig .tc := ⟨.hbm, 63, rfl⟩
abbrev main_c_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_c_9 : Ref sig .tc := ⟨.hbm, 68, rfl⟩
abbrev main_v54 : Ref sig .tc := ⟨.hbm, 69, rfl⟩
abbrev main_v55 : Ref sig .tc := ⟨.hbm, 70, rfl⟩
abbrev main_c_10 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_c_11 : Ref sig .tc := ⟨.hbm, 75, rfl⟩
abbrev main_v59 : Ref sig .tc := ⟨.hbm, 76, rfl⟩
abbrev main_v60 : Ref sig .tc := ⟨.hbm, 77, rfl⟩
abbrev main_c_12 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_c_13 : Ref sig .tc := ⟨.hbm, 82, rfl⟩
abbrev main_v64 : Ref sig .tc := ⟨.hbm, 83, rfl⟩
abbrev main_c_14 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_c_15 : Ref sig .tc := ⟨.hbm, 96, rfl⟩
abbrev main_v76 : Ref sig .tc := ⟨.hbm, 97, rfl⟩
abbrev main_v77 : Ref sig .tc := ⟨.hbm, 98, rfl⟩
abbrev main_c_16 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_c_17 : Ref sig .tc := ⟨.hbm, 103, rfl⟩
abbrev main_v81 : Ref sig .tc := ⟨.hbm, 104, rfl⟩
abbrev main_v82 : Ref sig .tc := ⟨.hbm, 105, rfl⟩
abbrev main_c_18 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_c_19 : Ref sig .tc := ⟨.hbm, 110, rfl⟩
abbrev main_v86 : Ref sig .tc := ⟨.hbm, 111, rfl⟩
abbrev main_v87 : Ref sig .tc := ⟨.hbm, 112, rfl⟩
abbrev main_c_20 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_21 : Ref sig .tc := ⟨.hbm, 117, rfl⟩
abbrev main_v91 : Ref sig .tc := ⟨.hbm, 118, rfl⟩
abbrev main_c_22 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_c_23 : Ref sig .tc := ⟨.hbm, 131, rfl⟩
abbrev main_v103 : Ref sig .tc := ⟨.hbm, 132, rfl⟩
abbrev main_v104 : Ref sig .tc := ⟨.hbm, 133, rfl⟩
abbrev main_c_24 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_c_25 : Ref sig .tc := ⟨.hbm, 138, rfl⟩
abbrev main_v108 : Ref sig .tc := ⟨.hbm, 139, rfl⟩
abbrev main_v109 : Ref sig .tc := ⟨.hbm, 140, rfl⟩
abbrev main_c_26 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_c_27 : Ref sig .tc := ⟨.hbm, 145, rfl⟩
abbrev main_v113 : Ref sig .tc := ⟨.hbm, 146, rfl⟩
abbrev main_v114 : Ref sig .tc := ⟨.hbm, 147, rfl⟩
abbrev main_c_28 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_c_29 : Ref sig .tc := ⟨.hbm, 152, rfl⟩
abbrev main_v118 : Ref sig .tc := ⟨.hbm, 153, rfl⟩
abbrev main_c_30 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_c_31 : Ref sig .tc := ⟨.hbm, 166, rfl⟩
abbrev main_v130 : Ref sig .tc := ⟨.hbm, 167, rfl⟩
abbrev main_v131 : Ref sig .tc := ⟨.hbm, 168, rfl⟩
abbrev main_c_32 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_c_33 : Ref sig .tc := ⟨.hbm, 173, rfl⟩
abbrev main_v135 : Ref sig .tc := ⟨.hbm, 174, rfl⟩
abbrev main_v136 : Ref sig .tc := ⟨.hbm, 175, rfl⟩
abbrev main_c_34 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_c_35 : Ref sig .tc := ⟨.hbm, 180, rfl⟩
abbrev main_v140 : Ref sig .tc := ⟨.hbm, 181, rfl⟩
abbrev main_v141 : Ref sig .tc := ⟨.hbm, 182, rfl⟩
abbrev main_c_36 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_c_37 : Ref sig .tc := ⟨.hbm, 187, rfl⟩
abbrev main_v145 : Ref sig .tc := ⟨.hbm, 188, rfl⟩
abbrev main_c_38 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_c_39 : Ref sig .tc := ⟨.hbm, 200, rfl⟩
abbrev main_v156 : Ref sig .tc := ⟨.hbm, 201, rfl⟩
abbrev main_v157 : Ref sig .tc := ⟨.hbm, 202, rfl⟩
abbrev main_c_40 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_c_41 : Ref sig .tc := ⟨.hbm, 207, rfl⟩
abbrev main_v161 : Ref sig .tc := ⟨.hbm, 208, rfl⟩
abbrev main_v162 : Ref sig .tc := ⟨.hbm, 209, rfl⟩
abbrev main_c_42 : Ref sig .tc := ⟨.hbm, 210, rfl⟩
abbrev main_v163 : Ref sig .tc := ⟨.hbm, 211, rfl⟩
abbrev main_v164 : Ref sig .tc := ⟨.hbm, 212, rfl⟩
abbrev main_v165 : Ref sig .tc := ⟨.hbm, 213, rfl⟩
abbrev main_c_43 : Ref sig .tc := ⟨.hbm, 214, rfl⟩
abbrev main_v166 : Ref sig .tc := ⟨.hbm, 215, rfl⟩
abbrev main_v167 : Ref sig .tc := ⟨.hbm, 216, rfl⟩
abbrev main_c_44 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_c_45 : Ref sig .tc := ⟨.hbm, 221, rfl⟩
abbrev main_v171 : Ref sig .tc := ⟨.hbm, 222, rfl⟩
abbrev main_c_46 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_cst_47 : Ref sig .tc := ⟨.hbm, 233, rfl⟩
abbrev main_v181 : Ref sig .tc := ⟨.hbm, 234, rfl⟩
abbrev main_v182 : Ref sig .tc := ⟨.hbm, 235, rfl⟩
abbrev main_v183 : Ref sig .tc := ⟨.hbm, 236, rfl⟩
abbrev main_v184 : Ref sig .tc := ⟨.hbm, 237, rfl⟩
abbrev main_cst_48 : Ref sig .tc := ⟨.hbm, 238, rfl⟩
abbrev main_v185 : Ref sig .tc := ⟨.hbm, 239, rfl⟩
abbrev main_v186 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_cst_49 : Ref sig .tc := ⟨.hbm, 249, rfl⟩
abbrev main_v195 : Ref sig .tc := ⟨.hbm, 250, rfl⟩
abbrev main_cst_50 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_cst_51 : Ref sig .tc := ⟨.hbm, 259, rfl⟩
abbrev main_v203 : Ref sig .tc := ⟨.hbm, 260, rfl⟩
abbrev main_v204 : Ref sig .tc := ⟨.hbm, 261, rfl⟩
abbrev main_v205 : Ref sig .tc := ⟨.hbm, 262, rfl⟩
abbrev main_v206 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_cst_52 : Ref sig .tc := ⟨.hbm, 268, rfl⟩
abbrev main_v211 : Ref sig .tc := ⟨.hbm, 269, rfl⟩
abbrev main_v212 : Ref sig .tc := ⟨.hbm, 270, rfl⟩
abbrev main_v213 : Ref sig .tc := ⟨.hbm, 271, rfl⟩
abbrev main_cst_53 : Ref sig .tc := ⟨.hbm, 272, rfl⟩
abbrev main_v214 : Ref sig .tc := ⟨.hbm, 273, rfl⟩

abbrev nD : Nat := 1
abbrev τ : Topo := Topo.v7x

variable {F : FTy → Type} [FloatOps F]
-- ==== Proof.KBase.lean ====
/-
  The program as the launch theorem sees it, the resource algebra, and the names of the buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.MixedBatch
public import Idealize.ShloMosaic.Lib.Writes
public import Idealize.ShloMosaic.Lib.Tactic.Stretches
public import Idealize.ShloMosaic.Lib.Tactic
public import proofs.«01_k».proof.Proof.Gen.Kernel
public import proofs.«01_k».proof.Proof.Gen.Kernel.Skeleton

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

/-- The handshake semaphores are where the launch theorem wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

/-- The propositions of the logic. -/
abbrev MM (F : FTy → Type) : Type := MT nD τ sig (HIx 1) (Elt F) ℕ UU ℕ

abbrev EH : Emb UH (MT nD τ sig (HIx 1) (Elt F) ℕ UU ℕ) := embL

/-! ## The subcore and its buffers -/

section Tile

variable (d : Dev nD) (L : grid0.Coords)

abbrev cV (L : grid0.Coords) : Fin τ.nSC := (L 0).castLE hcore0
abbrev jV (L : grid0.Coords) : Fin τ.nSub := (L 1).castLE hsub0
/-- The vector subcore at `L` of device `d`. -/
abbrev tV : Thread nD τ := V d (cV L) (jV L)

abbrev mP : Memref sig .scVector .hbm S13x13x25x2x2x128 .f32 := Memref.whole main_v1_scv
abbrev mB : Memref sig .scVector .hbm S8x2x4x128 .f32 := Memref.whole main_v3_scv
abbrev mO : Memref sig .scVector .hbm S32x16 .f32 := Memref.whole main_v4_scv
abbrev mc0 : Memref sig .scVector .vmem S25x2x128 .f32 := Memref.whole cc0_scratch0
abbrev mf0 : Memref sig .scVector .vmem S2x128 .f32 := Memref.whole cc0_scratch1
abbrev mc1 : Memref sig .scVector .vmem S25x2x128 .f32 := Memref.whole cc0_scratch2
abbrev mf1 : Memref sig .scVector .vmem S2x128 .f32 := Memref.whole cc0_scratch3
abbrev mc2 : Memref sig .scVector .vmem S25x2x128 .f32 := Memref.whole cc0_scratch4
abbrev mf2 : Memref sig .scVector .vmem S2x128 .f32 := Memref.whole cc0_scratch5
abbrev mc3 : Memref sig .scVector .vmem S25x2x128 .f32 := Memref.whole cc0_scratch6
abbrev mf3 : Memref sig .scVector .vmem S2x128 .f32 := Memref.whole cc0_scratch7
abbrev mc4 : Memref sig .scVector .vmem S25x2x128 .f32 := Memref.whole cc0_scratch8
abbrev mf4 : Memref sig .scVector .vmem S2x128 .f32 := Memref.whole cc0_scratch9
abbrev mc5 : Memref sig .scVector .vmem S25x2x128 .f32 := Memref.whole cc0_scratch10
abbrev mf5 : Memref sig .scVector .vmem S2x128 .f32 := Memref.whole cc0_scratch11
abbrev mbb : Memref sig .scVector .vmem S8x2x4x128 .f32 := Memref.whole cc0_scratch12
abbrev mcid : Memref sig .scVector .vmem S8x2x128 .i32 := Memref.whole cc0_scratch13
abbrev mtx : Memref sig .scVector .vmem S8x2x128 .f32 := Memref.whole cc0_scratch14
abbrev mty : Memref sig .scVector .vmem S8x2x128 .f32 := Memref.whole cc0_scratch15
abbrev mtw : Memref sig .scVector .vmem S8x2x128 .f32 := Memref.whole cc0_scratch16
abbrev mth : Memref sig .scVector .vmem S8x2x128 .f32 := Memref.whole cc0_scratch17
abbrev macc : Memref sig .scVector .vmem S16 .f32 := Memref.whole cc0_scratch18

end Tile

end Cert.Proof.K

end
-- ==== Proof.KVals.lean ====
/-
  What the kernel computes, as plain functions of its operands: the geometry of a box, one slot's term for one lane, the
  sum over the six slots, and the sum over the sixteen groups of lanes. Generic in the float instance.
-/
module

public import proofs.«01_k».proof.Proof.KBase

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## Indices by their coordinates -/

/-- The index of a batch-major box array at its coordinates. -/
def ix4 (a : Fin 8) (b : Fin 2) (c : Fin 4) (e : Fin 128) : S8x2x4x128.Idx :=
  fun | 0 => a | 1 => b | 2 => c | 3 => e
/-- The index of a per-box array. -/
def ix3 (a : Fin 8) (b : Fin 2) (e : Fin 128) : S8x2x128.Idx :=
  fun | 0 => a | 1 => b | 2 => e
/-- The index of a fetched cell: channel, half of the batch, lane. -/
def ixc (a : Fin 25) (b : Fin 2) (e : Fin 128) : S25x2x128.Idx :=
  fun | 0 => a | 1 => b | 2 => e
/-- The index of a fetched confidence. -/
def ixf (b : Fin 2) (e : Fin 128) : S2x128.Idx :=
  fun | 0 => b | 1 => e
/-- The index of a row of sixteen lanes. -/
def ix1 (i : Fin 16) : S16.Idx := fun | 0 => i

/-- The half of the batch that group `k` of lanes lies in, -/
def gh (k : ℕ) : Fin 2 := ⟨k / 8 % 2, Nat.mod_lt _ (by decide)⟩
/-- and the place of its lane `i` in that half. -/
def gl (k : ℕ) (i : Fin 16) : Fin 128 := ⟨k % 8 * 16 + i.val, by have := i.isLt; have := Nat.mod_lt k (show 0 < 8 by decide); omega⟩

/-! ## A box's geometry -/

/-- The centre of an interval in cells, kept below the last cell's edge. -/
def gcl (a b : F .f32) : F .f32 :=
  FloatOps.minimumf (FloatOps.divf (FloatOps.divf (FloatOps.addf a b) (Scalar.ofBits .f32 0x40000000#32)) (Scalar.ofBits .f32 0x42000000#32))
    (Scalar.ofBits .f32 0x414FFFFF#32)
/-- The cell the centre lies in, along one axis. -/
def gci (a b : F .f32) : BitVec 32 := FloatOps.fptosi 32 (gcl a b)
/-- The centre's place inside its cell. -/
def gct (a b : F .f32) : F .f32 := FloatOps.subf (gcl a b) (FloatOps.sitofp .f32 (gci a b))
/-- The interval's length as a share of the picture. -/
def gcw (a b : F .f32) : F .f32 := FloatOps.divf (FloatOps.subf b a) (Scalar.ofBits .f32 0x43D00000#32)

/-- Coordinate `c` of the box at `y`. -/
def bx (b : S8x2x4x128.Idx → F .f32) (y : S8x2x128.Idx) (c : Fin 4) : F .f32 := b (ix4 (y 0) (y 1) c (y 2))

/-- The number of the box's cell. -/
def Gcid (b : S8x2x4x128.Idx → F .f32) (y : S8x2x128.Idx) : BitVec 32 :=
  IntOp.addi (IntOp.muli (gci (bx b y 1) (bx b y 3)) 13#32) (gci (bx b y 0) (bx b y 2))
/-- Its four targets. -/
def Gtx (b : S8x2x4x128.Idx → F .f32) (y : S8x2x128.Idx) : F .f32 := gct (bx b y 0) (bx b y 2)
def Gty (b : S8x2x4x128.Idx → F .f32) (y : S8x2x128.Idx) : F .f32 := gct (bx b y 1) (bx b y 3)
def Gtw (b : S8x2x4x128.Idx → F .f32) (y : S8x2x128.Idx) : F .f32 := gcw (bx b y 0) (bx b y 2)
def Gth (b : S8x2x4x128.Idx → F .f32) (y : S8x2x128.Idx) : F .f32 := gcw (bx b y 1) (bx b y 3)

/-! ## One lane's term -/

/-- The word that says whether box `j` lies in cell `cid`. -/
def hitW (cid : BitVec 32) (cj : Fin 8 → BitVec 32) (j : Fin 8) : BitVec 1 := IntOp.cmpi .eq (cj j) cid
/-- Whether any box lies in the cell, -/
def maskW (w : BitVec 1) (cid : BitVec 32) (cj : Fin 8 → BitVec 32) : BitVec 1 :=
  ([0, 1, 2, 3, 4, 5, 6, 7] : List (Fin 8)).foldl (fun s j => IntOp.ori s (hitW cid cj j)) w
/-- and the target that the last such box sets. -/
def lastT (z : F .f32) (cid : BitVec 32) (cj : Fin 8 → BitVec 32) (t : Fin 8 → F .f32) : F .f32 :=
  ([0, 1, 2, 3, 4, 5, 6, 7] : List (Fin 8)).foldl (fun s j => Scalar.select (hitW cid cj j) (t j) s) z
/-- The square of the distance between the cell's box and its target. -/
def coordL (z : F .f32) (cid : BitVec 32) (cj : Fin 8 → BitVec 32) (t : Fin 4 → Fin 8 → F .f32) (cb : Fin 25 → F .f32) : F .f32 :=
  ([0, 1, 2, 3] : List (Fin 4)).foldl (fun s c => FloatOps.addf s
    (FloatOps.mulf (FloatOps.subf (cb (c.castLE (by decide))) (lastT z cid cj (t c))) (FloatOps.subf (cb (c.castLE (by decide))) (lastT z cid cj (t c))))) z
/-- The sum of the squares of the cell's class scores. -/
def clsL (z : F .f32) (cb : Fin 25 → F .f32) : F .f32 :=
  ([5, 6, 7, 8, 9, 10, 11, 12, 13, 14, 15, 16, 17, 18, 19, 20, 21, 22, 23, 24] : List (Fin 25)).foldl
    (fun s c => FloatOps.addf s (FloatOps.mulf (cb c) (cb c))) z
/-- What one cell adds for one picture: the confidences' squares, and the correction where a box lies in the cell. -/
def slotL (acc z : F .f32) (w : BitVec 1) (cid : BitVec 32) (cj : Fin 8 → BitVec 32) (t : Fin 4 → Fin 8 → F .f32) (cb : Fin 25 → F .f32)
    (cf : F .f32) : F .f32 :=
  FloatOps.addf (FloatOps.addf (FloatOps.addf acc (FloatOps.mulf (cb 4) (cb 4))) (FloatOps.mulf cf cf))
    (Scalar.select (maskW w cid cj)
      (FloatOps.addf (FloatOps.addf (FloatOps.mulf (Scalar.ofBits .f32 0x40A00000#32) (coordL z cid cj t cb))
        (FloatOps.subf (Scalar.ofBits .f32 0x3F800000#32) (FloatOps.mulf (Scalar.ofBits .f32 0x40000000#32) (cb 4)))) (clsL z cb))
      (Scalar.ofBits .f32 0x00000000#32))

/-- The number of a subcore's cell in slot `s`. -/
def cidS (v1 : BitVec 32) (s : Fin 6) : BitVec 32 := Scalar.addi (![0#32, 32#32, 64#32, 96#32, 128#32, 160#32] s) v1

/-- The six slots' terms, one after another. -/
def slotsL (acc z : F .f32) (w : BitVec 1) (v1 : BitVec 32) (cj : Fin 8 → BitVec 32) (t : Fin 4 → Fin 8 → F .f32) (cb : Fin 6 → Fin 25 → F .f32)
    (cf : Fin 6 → F .f32) : F .f32 :=
  ([0, 1, 2, 3, 4, 5] : List (Fin 6)).foldl (fun a s => slotL a z w (cidS v1 s) cj t (cb s) (cf s)) acc

/-- The word that the mask starts from: whether the lane's number is negative. -/
def negW (v2 : IVec S16 32) (i : S16.Idx) : BitVec 1 := IntOp.cmpi .slt (v2 i) 0#32

/-- One trip of the sum: group `k` of lanes, all six slots. -/
def stepL (v1 : BitVec 32) (v2 : IVec S16 32) (v5 : FVec F S16 .f32) (c : S8x2x128.Idx → BitVec 32) (t : Fin 4 → S8x2x128.Idx → F .f32)
    (xc : Fin 6 → S25x2x128.Idx → F .f32) (xf : Fin 6 → S2x128.Idx → F .f32) (k : ℕ) (acc : FVec F S16 .f32) : FVec F S16 .f32 := fun i =>
  slotsL (acc i) (v5 i) (negW v2 i) v1 (fun j => c (ix3 j (gh k) (gl k (i 0)))) (fun e j => t e (ix3 j (gh k) (gl k (i 0))))
    (fun s ch => xc s (ixc ch (gh k) (gl k (i 0)))) (fun s => xf s (ixf (gh k) (gl k (i 0))))

/-- The sum after `n` trips. -/
def accL (v1 : BitVec 32) (v2 : IVec S16 32) (v5 : FVec F S16 .f32) (c : S8x2x128.Idx → BitVec 32) (t : Fin 4 → S8x2x128.Idx → F .f32)
    (xc : Fin 6 → S25x2x128.Idx → F .f32) (xf : Fin 6 → S2x128.Idx → F .f32) : ℕ → FVec F S16 .f32
  | 0 => v5
  | n + 1 => stepL v1 v2 v5 c t xc xf n (accL v1 v2 v5 c t xc xf n)

/-! ## Loads, by their coordinates -/

theorem rs_4 (j : S16.Idx) : Shape.reshapeEquiv shapeCasts_S1x1x1x16_S16 j
    = (fun | 0 => ⟨0, by decide⟩ | 1 => ⟨0, by decide⟩ | 2 => ⟨0, by decide⟩ | 3 => j 0 : S1x1x1x16.Idx) := by
  revert j; decide +kernel
theorem rs_3 (j : S16.Idx) : Shape.reshapeEquiv shapeCasts_S1x1x16_S16 j
    = (fun | 0 => ⟨0, by decide⟩ | 1 => ⟨0, by decide⟩ | 2 => j 0 : S1x1x16.Idx) := by
  revert j; decide +kernel
theorem rs_2 (j : S16.Idx) : Shape.reshapeEquiv shapeCasts_S1x16_S16 j = (fun | 0 => ⟨0, by decide⟩ | 1 => j 0 : S1x16.Idx) := by
  revert j; decide +kernel

/-- Where lane `i` of a box load lies: group `k` is batch row `k / 16`. -/
theorem idx_box (off : Fin 4 → ℕ) (hin) (c : Fin 4) (k : ℕ) (hk : k / 16 < 8) (h : off = ![k / 16, k / 8 % 2, c.val, k % 8 * 16]) (i : S16.Idx) :
    (Rect.unit (s := S8x2x4x128) off S1x1x1x16.size hin).toLoadRect.idx (Shape.reshapeEquiv shapeCasts_S1x1x1x16_S16 i)
      = ix4 ⟨k / 16, hk⟩ (gh k) c (gl k (i 0)) := by
  subst h; rw [rs_4]; funext a; fin_cases a <;> (refine Fin.ext ?_; simp [Rect.unit, Rect.toLoadRect, LoadRect.idx, ix4, gh, gl])

/-- Where lane `i` of a per-box load lies. -/
theorem idx_3 (off : Fin 3 → ℕ) (hin) (j : Fin 8) (k : ℕ) (h : off = ![j.val, k / 8 % 2, k % 8 * 16]) (i : S16.Idx) :
    (Rect.unit (s := S8x2x128) off S1x1x16.size hin).toLoadRect.idx (Shape.reshapeEquiv shapeCasts_S1x1x16_S16 i)
      = ix3 j (gh k) (gl k (i 0)) := by
  subst h; rw [rs_3]; funext a; fin_cases a <;> (refine Fin.ext ?_; simp [Rect.unit, Rect.toLoadRect, LoadRect.idx, ix3, gh, gl])

/-- Where lane `i` of a load of a fetched cell lies. -/
theorem idx_c (off : Fin 3 → ℕ) (hin) (c : Fin 25) (k : ℕ) (h : off = ![c.val, k / 8 % 2, k % 8 * 16]) (i : S16.Idx) :
    (Rect.unit (s := S25x2x128) off S1x1x16.size hin).toLoadRect.idx (Shape.reshapeEquiv shapeCasts_S1x1x16_S16 i)
      = ixc c (gh k) (gl k (i 0)) := by
  subst h; rw [rs_3]; funext a; fin_cases a <;> (refine Fin.ext ?_; simp [Rect.unit, Rect.toLoadRect, LoadRect.idx, ixc, gh, gl])

/-- Where lane `i` of a load of a fetched confidence lies. -/
theorem idx_f (off : Fin 2 → ℕ) (hin) (k : ℕ) (h : off = ![k / 8 % 2, k % 8 * 16]) (i : S16.Idx) :
    (Rect.unit (s := S2x128) off S1x16.size hin).toLoadRect.idx (Shape.reshapeEquiv shapeCasts_S1x16_S16 i)
      = ixf (gh k) (gl k (i 0)) := by
  subst h; rw [rs_2]; funext a; fin_cases a <;> (refine Fin.ext ?_; simp [Rect.unit, Rect.toLoadRect, LoadRect.idx, ixf, gh, gl])

/-! ## The loads' offsets -/

/-- The offsets of a fetched cell's channels. -/
def offC (c : Fin 25) (k : Fin k0_t2_loop.trips) : Fin 3 → ℕ :=
  (![k0_off40, k0_off41, k0_off42, k0_off43, k0_off38, k0_off44, k0_off45, k0_off46, k0_off47, k0_off48, k0_off49, k0_off50, k0_off51, k0_off52, k0_off53, k0_off54, k0_off55, k0_off56, k0_off57, k0_off58, k0_off59, k0_off60, k0_off61, k0_off62, k0_off63] : Fin 25 → Fin k0_t2_loop.trips → Fin 3 → ℕ) c k
theorem offC_eq : ∀ (c : Fin 25) (k : Fin k0_t2_loop.trips), offC c k = ![c.val, k.val / 8 % 2, k.val % 8 * 16] := by decide +kernel
theorem offC_inb (c : Fin 25) (k : Fin k0_t2_loop.trips) : ∀ a, offC c k a + S1x1x16.size a ≤ S25x2x128.size a := by
  revert c k; decide +kernel
theorem offF_eq : ∀ k : Fin k0_t2_loop.trips, k0_off39 k = ![k.val / 8 % 2, k.val % 8 * 16] := by decide +kernel
/-- The offsets of the eight boxes' rows. -/
def offJ (j : Fin 8) (k : Fin k0_t2_loop.trips) : Fin 3 → ℕ :=
  (![k0_off30, k0_off31, k0_off32, k0_off33, k0_off34, k0_off35, k0_off36, k0_off37] : Fin 8 → Fin k0_t2_loop.trips → Fin 3 → ℕ) j k
theorem offJ_eq : ∀ (j : Fin 8) (k : Fin k0_t2_loop.trips), offJ j k = ![j.val, k.val / 8 % 2, k.val % 8 * 16] := by decide +kernel
theorem offJ_inb (c : Fin 8) (k : Fin k0_t2_loop.trips) : ∀ a, offJ c k a + S1x1x16.size a ≤ S8x2x128.size a := by
  revert c k; decide +kernel
/-- The offsets of a box's coordinates. -/
def offB (c : Fin 4) (k : Fin k0_t1_loop.trips) : Fin 4 → ℕ :=
  (![k0_off13, k0_off14, k0_off15, k0_off16] : Fin 4 → Fin k0_t1_loop.trips → Fin 4 → ℕ) c k
theorem offB_eq : ∀ (c : Fin 4) (k : Fin k0_t1_loop.trips), offB c k = ![k.val / 16, k.val / 8 % 2, c.val, k.val % 8 * 16] := by decide +kernel
theorem off17_eq : ∀ k : Fin k0_t1_loop.trips, k0_off17 k = ![k.val / 16, k.val / 8 % 2, k.val % 8 * 16] := by decide +kernel
theorem offB_inb (c : Fin 4) (k : Fin k0_t1_loop.trips) : ∀ a, offB c k a + S1x1x1x16.size a ≤ S8x2x4x128.size a := by
  revert c k; decide +kernel

/-! ## The geometry, sixteen boxes at a time -/

/-- The place of a box in the order that the geometry's loop visits. -/
def pos3 (y : S8x2x128.Idx) : ℕ := (y 0).val * 256 + (y 1).val * 128 + (y 2).val

/-- The first `16 n` boxes of a buffer hold `G`. -/
def Done {β : Type} (G : S8x2x128.Idx → β) (n : ℕ) (f : S8x2x128.Idx → β) : Prop := ∀ y, pos3 y < 16 * n → f y = G y

theorem Done.zero {β : Type} (G f : S8x2x128.Idx → β) : Done G 0 f := fun _ h => absurd h (by omega)

theorem Done.all {β : Type} {G f : S8x2x128.Idx → β} (h : Done G 128 f) : f = G :=
  funext fun y => h y (by
    have h0 : (y 0).val < 8 := (y 0).isLt
    have h1 : (y 1).val < 2 := (y 1).isLt
    have h2 : (y 2).val < 128 := (y 2).isLt
    unfold pos3; omega)

/-- Storing sixteen more of them. -/
theorem Done.step {κ : Kind} {sp : Space} {e : EltTy} (v : View sig κ sp S8x2x128 e) (f : v.ty.Contents (Elt F))
    (G : S8x2x128.Idx → Elt F e) (k : Fin k0_t1_loop.trips) (h : Done G k.val (v.read (Elt F) f)) (hin)
    (w : (Rect.unit (s := S8x2x128) (k0_off17 k) S1x1x16.size hin).shape.Idx → Elt F e)
    (hw : ∀ x : S1x1x16.Idx, w x = G (ix3 ⟨k.val / 16, by have : k.val < 128 := k.isLt; omega⟩ (gh k.val) (gl k.val (x 2)))) :
    Done G (k.val + 1) (v.read (Elt F) (v.writes (Elt F) f [⟨Rect.unit (k0_off17 k) S1x1x16.size hin, w⟩])) := by
  intro y hy
  have h0 : (y 0).val < 8 := (y 0).isLt
  have h1 : (y 1).val < 2 := (y 1).isLt
  have h2 : (y 2).val < 128 := (y 2).isLt
  have e0 : k0_off17 k 0 = k.val / 16 := by rw [off17_eq]; rfl
  have e1 : k0_off17 k 1 = k.val / 8 % 2 := by rw [off17_eq]; rfl
  have e2 : k0_off17 k 2 = k.val % 8 * 16 := by rw [off17_eq]; rfl
  unfold pos3 at hy
  by_cases hc : (y 0).val * 256 + (y 1).val * 128 + (y 2).val < 16 * k.val
  · have hd : (y 0).val < k.val / 16 ∨ ((y 0).val = k.val / 16 ∧ (y 1).val < k.val / 8 % 2)
        ∨ ((y 0).val = k.val / 16 ∧ (y 1).val = k.val / 8 % 2 ∧ (y 2).val < k.val % 8 * 16) := by omega
    have hm : v.read (Elt F) (v.writes (Elt F) f [⟨Rect.unit (k0_off17 k) S1x1x16.size hin, w⟩]) y = v.read (Elt F) (v.writes (Elt F) f []) y := by
      rcases hd with hd | hd | hd
      · exact View.read_writes_cons_miss_of_axis v f _ _ y 0 _ _ e0 rfl rfl (Or.inl hd)
      · exact View.read_writes_cons_miss_of_axis v f _ _ y 1 _ _ e1 rfl rfl (Or.inl hd.2)
      · exact View.read_writes_cons_miss_of_axis v f _ _ y 2 _ _ e2 rfl rfl (Or.inl hd.2.2)
    rw [hm]; exact h y hc
  · have hx : (y 2).val - k.val % 8 * 16 < 16 := by omega
    have c0 : (y 0).val = k.val / 16 := by omega
    have c1 : (y 1).val = k.val / 8 % 2 := by omega
    have c2 : (y 2).val = k.val % 8 * 16 + ((y 2).val - k.val % 8 * 16) := by omega
    rw [View.read_writes_cons_hit_of_coords v f _ w [] (fun | 0 => ⟨0, by decide⟩ | 1 => ⟨0, by decide⟩ | 2 => ⟨_, hx⟩ : S1x1x16.Idx) y
      (fun a => by
        fin_cases a
        · exact c0.trans (by rw [← e0]; rfl)
        · exact c1.trans (by rw [← e1]; rfl)
        · show (y 2).val = k0_off17 k 2 + 1 * ((y 2).val - k.val % 8 * 16)
          rw [e2, Nat.one_mul]; exact c2), hw]
    congr 1
    funext a
    fin_cases a
    · exact Fin.ext c0.symm
    · exact Fin.ext c1.symm
    · exact Fin.ext c2.symm

theorem rs_s3 (x : S1x1x16.Idx) : Shape.reshapeEquiv shapeCasts_S16_S1x1x16 x = ix1 (x 2) := by
  revert x; decide +kernel

end Cert.Proof.K
end
-- ==== Proof.KTrips.lean ====
/-
  One trip of each of the kernel's two loops.
-/
module

public import proofs.«01_k».proof.Proof.KVals

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F] (d : Dev nD) (L : grid0.Coords)

/-- Everything one trip of the sum reads. -/
abbrev heldT (c : S8x2x128.Idx → BitVec 32) (t : Fin 4 → S8x2x128.Idx → F .f32) (xc : Fin 6 → S25x2x128.Idx → F .f32)
    (xf : Fin 6 → S2x128.Idx → F .f32) : sProp 𝕄 :=
  iprop(((mcid).view.loc (tV d L) ↦{fullShare} (c)) ∗ ((mtx).view.loc (tV d L) ↦{fullShare} (t 0)) ∗ ((mty).view.loc (tV d L) ↦{fullShare} (t 1)) ∗ ((mtw).view.loc (tV d L) ↦{fullShare} (t 2)) ∗ ((mth).view.loc (tV d L) ↦{fullShare} (t 3)) ∗ ((mc0).view.loc (tV d L) ↦{fullShare} (xc 0)) ∗ ((mf0).view.loc (tV d L) ↦{fullShare} (xf 0)) ∗ ((mc1).view.loc (tV d L) ↦{fullShare} (xc 1)) ∗ ((mf1).view.loc (tV d L) ↦{fullShare} (xf 1)) ∗ ((mc2).view.loc (tV d L) ↦{fullShare} (xc 2)) ∗ ((mf2).view.loc (tV d L) ↦{fullShare} (xf 2)) ∗ ((mc3).view.loc (tV d L) ↦{fullShare} (xc 3)) ∗ ((mf3).view.loc (tV d L) ↦{fullShare} (xf 3)) ∗ ((mc4).view.loc (tV d L) ↦{fullShare} (xc 4)) ∗ ((mf4).view.loc (tV d L) ↦{fullShare} (xf 4)) ∗ ((mc5).view.loc (tV d L) ↦{fullShare} (xc 5)) ∗ ((mf5).view.loc (tV d L) ↦{fullShare} (xf 5)))

set_option maxHeartbeats 40000000 in
/-- One trip of the sum adds the six slots' terms and leaves every buffer as it was. -/
theorem trip2 (v1 : BitVec 32) (v2 : IVec S16 32) (v5 : FVec F S16 .f32) (k : Fin k0_t2_loop.trips) (a : FVec F S16 .f32)
    (c : S8x2x128.Idx → BitVec 32) (t : Fin 4 → S8x2x128.Idx → F .f32) (xc : Fin 6 → S25x2x128.Idx → F .f32) (xf : Fin 6 → S2x128.Idx → F .f32) :
    heldT d L c t xc xf
    ⊢ (wp frame (wpE (defs₀ (F := F)) 𝒱₀ (tV d L) none) Set.univ
        (k0_t2_body L mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1 v1 v2 v5 k a)
        fun a' => iprop(⌜a' = stepL v1 v2 v5 c t xc xf k.val a⌝ ∗ heldT d L c t xc xf) : sProp 𝕄) := by
  unfold k0_t2_body heldT
  iintro ⟨Hmcid, Hmtx, Hmty, Hmtw, Hmth, Hmc0, Hmf0, Hmc1, Hmf1, Hmc2, Hmf2, Hmc3, Hmf3, Hmc4, Hmf4, Hmc5, Hmf5⟩
  sl_exec
  sl_step
  isplitr
  · ipureintro
    funext i
    have ec : ∀ s ch, xc s (ixc ch (gh k.val) (gl k.val (i 0)))
        = xc s ((Rect.unit (s := S25x2x128) (offC ch k) S1x1x16.size (offC_inb ch k)).toLoadRect.idx (Shape.reshapeEquiv shapeCasts_S1x1x16_S16 i)) :=
      fun s ch => congrArg (xc s) (idx_c _ _ _ _ (offC_eq ch k) i).symm
    have ef : ∀ s, xf s (ixf (gh k.val) (gl k.val (i 0)))
        = xf s ((Rect.unit (s := S2x128) (k0_off39 k) S1x16.size (k0_off39_inb k)).toLoadRect.idx (Shape.reshapeEquiv shapeCasts_S1x16_S16 i)) :=
      fun s => congrArg (xf s) (idx_f _ _ _ (offF_eq k) i).symm
    have ej : ∀ j, ix3 j (gh k.val) (gl k.val (i 0))
        = (Rect.unit (s := S8x2x128) (offJ j k) S1x1x16.size (offJ_inb j k)).toLoadRect.idx (Shape.reshapeEquiv shapeCasts_S1x1x16_S16 i) :=
      fun j => (idx_3 _ _ _ _ (offJ_eq j k) i).symm
    unfold stepL
    simp only [ec, ef, ej]
    sl_open_run
    sl_open_pay
    rfl
  · iframe Hmcid Hmtx Hmty Hmtw Hmth Hmc0 Hmf0 Hmc1 Hmf1 Hmc2 Hmf2 Hmc3 Hmf3 Hmc4 Hmf4 Hmc5 Hmf5

/-- Everything the geometry's loop holds after `n` trips. -/
abbrev heldG (b : S8x2x4x128.Idx → F .f32) (n : ℕ) : sProp 𝕄 :=
  iprop(∃ f18 : S8x2x128.Idx → BitVec 32, ∃ f19 f20 f21 f22 : S8x2x128.Idx → F .f32,
    ⌜Done (Gcid b) n f18 ∧ Done (Gtx b) n f19 ∧ Done (Gty b) n f20 ∧ Done (Gtw b) n f21 ∧ Done (Gth b) n f22⌝
    ∗ ((mbb).view.loc (tV d L) ↦{fullShare} b) ∗ ((mcid).view.loc (tV d L) ↦{fullShare} f18) ∗ ((mtx).view.loc (tV d L) ↦{fullShare} f19) ∗ ((mty).view.loc (tV d L) ↦{fullShare} f20) ∗ ((mtw).view.loc (tV d L) ↦{fullShare} f21) ∗ ((mth).view.loc (tV d L) ↦{fullShare} f22))

set_option maxHeartbeats 4000000 in
/-- One trip of the geometry's loop computes sixteen more boxes. -/
theorem trip1 (v1 : BitVec 32) (v5 : FVec F S16 .f32) (v30 : BitVec 1) (k : Fin k0_t1_loop.trips) (a : BitVec 32) (b : S8x2x4x128.Idx → F .f32) :
    heldG d L b k.val
    ⊢ (wp frame (wpE (defs₀ (F := F)) 𝒱₀ (tV d L) none) Set.univ
        (k0_t1_body L mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1 v1 v5 v30 k a) fun _ => heldG d L b (k.val + 1) : sProp 𝕄) := by
  unfold k0_t1_body heldG
  iintro ⟨%f18, %f19, %f20, %f21, %f22, %hd, Hb, H18, H19, H20, H21, H22⟩
  sl_exec
  sl_step
  have hk : k.val / 16 < 8 := by have : k.val < 128 := k.isLt; omega
  have eb : ∀ (x : S1x1x16.Idx) c, b (ix4 ⟨k.val / 16, hk⟩ (gh k.val) c (gl k.val (x 2)))
      = b ((Rect.unit (s := S8x2x4x128) (offB c k) S1x1x1x16.size (offB_inb c k)).toLoadRect.idx
          (Shape.reshapeEquiv shapeCasts_S1x1x1x16_S16 (Shape.reshapeEquiv shapeCasts_S16_S1x1x16 x))) :=
    fun x c => congrArg b (by rw [idx_box _ _ c k.val hk (offB_eq c k), rs_s3]; rfl)
  iexists _, _, _, _, _
  isplitr
  swap
  · iframe Hb H18 H19 H20 H21 H22
  · ipureintro
    refine ⟨Done.step (F := F) mcid.view f18 (Gcid b) k hd.1 _ _ ?_, Done.step (F := F) mtx.view f19 (Gtx b) k hd.2.1 _ _ ?_,
      Done.step (F := F) mty.view f20 (Gty b) k hd.2.2.1 _ _ ?_, Done.step (F := F) mtw.view f21 (Gtw b) k hd.2.2.2.1 _ _ ?_,
      Done.step (F := F) mth.view f22 (Gth b) k hd.2.2.2.2 _ _ ?_⟩ <;> intro x
    · show _ = IntOp.addi (IntOp.muli (gci (b (ix4 ⟨k.val / 16, hk⟩ (gh k.val) 1 (gl k.val (x 2)))) (b (ix4 ⟨k.val / 16, hk⟩ (gh k.val) 3 (gl k.val (x 2))))) 13#32)
        (gci (b (ix4 ⟨k.val / 16, hk⟩ (gh k.val) 0 (gl k.val (x 2)))) (b (ix4 ⟨k.val / 16, hk⟩ (gh k.val) 2 (gl k.val (x 2)))))
      simp only [eb]; sl_open_run; sl_open_pay; rfl
    · show _ = gct (b (ix4 ⟨k.val / 16, hk⟩ (gh k.val) 0 (gl k.val (x 2)))) (b (ix4 ⟨k.val / 16, hk⟩ (gh k.val) 2 (gl k.val (x 2))))
      simp only [eb]; sl_open_run; sl_open_pay; rfl
    · show _ = gct (b (ix4 ⟨k.val / 16, hk⟩ (gh k.val) 1 (gl k.val (x 2)))) (b (ix4 ⟨k.val / 16, hk⟩ (gh k.val) 3 (gl k.val (x 2))))
      simp only [eb]; sl_open_run; sl_open_pay; rfl
    · show _ = gcw (b (ix4 ⟨k.val / 16, hk⟩ (gh k.val) 0 (gl k.val (x 2)))) (b (ix4 ⟨k.val / 16, hk⟩ (gh k.val) 2 (gl k.val (x 2))))
      simp only [eb]; sl_open_run; sl_open_pay; rfl
    · show _ = gcw (b (ix4 ⟨k.val / 16, hk⟩ (gh k.val) 1 (gl k.val (x 2)))) (b (ix4 ⟨k.val / 16, hk⟩ (gh k.val) 3 (gl k.val (x 2))))
      simp only [eb]; sl_open_run; sl_open_pay; rfl

end Cert.Proof.K
end
-- ==== Proof.KZero.lean ====
/-
  The subcores that have no sixth cell fill its place with zeros.
-/
module

public import proofs.«01_k».proof.Proof.KVals

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F] (d : Dev nD) (L : grid0.Coords)

/-- The place of the `n`th store of the fill, -/
def offZ (n : ℕ) : Fin 3 → ℕ := ![n / 16 % 25, n / 8 % 2, n % 8 * 16]
theorem offZ_inb (n : ℕ) : ∀ a, offZ n a + S1x1x16.size a ≤ S25x2x128.size a := by
  intro a
  fin_cases a
  · show n / 16 % 25 + 1 ≤ 25; omega
  · show n / 8 % 2 + 1 ≤ 2; omega
  · show n % 8 * 16 + 16 ≤ 128; omega
/-- and the first `n` stores, the latest first. -/
def Lz (w : S1x1x16.Idx → F .f32) (n : ℕ) : List (View.Piece (Elt F) S25x2x128 .f32) :=
  Nat.rec [] (fun n l => ⟨Rect.unit (offZ n) S1x1x16.size (offZ_inb n), w⟩ :: l) n

theorem mem_Lz (w : S1x1x16.Idx → F .f32) (p) : ∀ n : ℕ, p ∈ Lz w n ↔ ∃ k < n, p = ⟨Rect.unit (offZ k) S1x1x16.size (offZ_inb k), w⟩
  | 0 => ⟨fun h => absurd h List.not_mem_nil, fun ⟨_, h, _⟩ => absurd h (Nat.not_lt_zero _)⟩
  | n + 1 => by
    show p ∈ _ :: Lz w n ↔ _
    rw [List.mem_cons, mem_Lz w p n]
    constructor
    · rintro (h | ⟨k, hk, h⟩)
      · exact ⟨n, Nat.lt_succ_self n, h⟩
      · exact ⟨k, Nat.lt_succ_of_lt hk, h⟩
    · rintro ⟨k, hk, h⟩
      rcases Nat.lt_succ_iff_lt_or_eq.mp hk with hk | rfl
      · exact Or.inr ⟨k, hk, h⟩
      · exact Or.inl h

/-- The same for the second buffer: the place of its `n`th store, -/
def offY (n : ℕ) : Fin 2 → ℕ := ![n / 8 % 2, n % 8 * 16]
theorem offY_inb (n : ℕ) : ∀ a, offY n a + S1x16.size a ≤ S2x128.size a := by
  intro a
  fin_cases a
  · show n / 8 % 2 + 1 ≤ 2; omega
  · show n % 8 * 16 + 16 ≤ 128; omega
/-- and its first `n` stores. -/
def Ly (w : S1x16.Idx → F .f32) (n : ℕ) : List (View.Piece (Elt F) S2x128 .f32) :=
  Nat.rec [] (fun n l => ⟨Rect.unit (offY n) S1x16.size (offY_inb n), w⟩ :: l) n

theorem mem_Ly (w : S1x16.Idx → F .f32) (p) : ∀ n : ℕ, p ∈ Ly w n ↔ ∃ k < n, p = ⟨Rect.unit (offY k) S1x16.size (offY_inb k), w⟩
  | 0 => ⟨fun h => absurd h List.not_mem_nil, fun ⟨_, h, _⟩ => absurd h (Nat.not_lt_zero _)⟩
  | n + 1 => by
    show p ∈ _ :: Ly w n ↔ _
    rw [List.mem_cons, mem_Ly w p n]
    constructor
    · rintro (h | ⟨k, hk, h⟩)
      · exact ⟨n, Nat.lt_succ_self n, h⟩
      · exact ⟨k, Nat.lt_succ_of_lt hk, h⟩
    · rintro ⟨k, hk, h⟩
      rcases Nat.lt_succ_iff_lt_or_eq.mp hk with hk | rfl
      · exact Or.inr ⟨k, hk, h⟩
      · exact Or.inl h

/-- A place's lane. -/
def lane (n : ℕ) : S16.Idx := ix1 ⟨n % 16, Nat.mod_lt _ (by decide)⟩
/-- A fetched cell whose every row of lanes is `v`, -/
def fillC (v : FVec F S16 .f32) (y : S25x2x128.Idx) : F .f32 := v (lane (y 2).val)
/-- and a fetched confidence likewise. -/
def fillF (v : FVec F S16 .f32) (y : S2x128.Idx) : F .f32 := v (lane (y 1).val)

theorem rs_s2 (x : S1x16.Idx) : Shape.reshapeEquiv shapeCasts_S16_S1x16 x = ix1 (x 1) := by
  revert x; decide +kernel

theorem emb_val {s : Shape} (off size) (hin) (x : (Rect.unit (s := s) off size hin).shape.Idx) (a) :
    (((Rect.unit (s := s) off size hin).emb x) a).val = off a + (x a).val := by
  show off a + 1 * (x a).val = _
  rw [Nat.one_mul]

theorem fillC_of (v : FVec F S16 .f32) (m : View sig .scVector .vmem S25x2x128 .f32) (f) :
    m.read (Elt F) (m.writes (Elt F) f (Lz (shapeCast S1x1x16 v shapeCasts_S16_S1x1x16) 400)) = fillC v := by
  funext y
  refine View.read_writes_apply_of_pieces m f (fillC v) _ (fun p hp x => ?_) y ?_
  · obtain ⟨k, -, rfl⟩ := (mem_Lz _ _ _).mp hp
    show v (Shape.reshapeEquiv shapeCasts_S16_S1x1x16 x) = v (lane _)
    rw [rs_s3]
    congr 1
    funext a
    fin_cases a
    refine Fin.ext ?_
    show (x 2).val = _ % 16
    rw [emb_val]
    have h : (x 2).val < 16 := (x 2).isLt
    show (x 2).val = (k % 8 * 16 + (x 2).val) % 16
    omega
  · have h0 : (y 0).val < 25 := (y 0).isLt
    have h1 : (y 1).val < 2 := (y 1).isLt
    have h2 : (y 2).val < 128 := (y 2).isLt
    refine ⟨_, (mem_Lz _ _ _).mpr ⟨(y 0).val * 16 + (y 1).val * 8 + (y 2).val / 16, by omega, rfl⟩, ?_⟩
    refine (Rect.mem_set_unit (inb := offZ_inb _)).mpr fun a => ?_
    fin_cases a
    · show ((y 0).val * 16 + (y 1).val * 8 + (y 2).val / 16) / 16 % 25 ≤ (y 0).val ∧ (y 0).val < ((y 0).val * 16 + (y 1).val * 8 + (y 2).val / 16) / 16 % 25 + 1
      omega
    · show ((y 0).val * 16 + (y 1).val * 8 + (y 2).val / 16) / 8 % 2 ≤ (y 1).val ∧ (y 1).val < ((y 0).val * 16 + (y 1).val * 8 + (y 2).val / 16) / 8 % 2 + 1
      omega
    · show ((y 0).val * 16 + (y 1).val * 8 + (y 2).val / 16) % 8 * 16 ≤ (y 2).val ∧ (y 2).val < ((y 0).val * 16 + (y 1).val * 8 + (y 2).val / 16) % 8 * 16 + 16
      omega

theorem fillF_of (v : FVec F S16 .f32) (m : View sig .scVector .vmem S2x128 .f32) (f) :
    m.read (Elt F) (m.writes (Elt F) f (Ly (shapeCast S1x16 v shapeCasts_S16_S1x16) 16)) = fillF v := by
  funext y
  refine View.read_writes_apply_of_pieces m f (fillF v) _ (fun p hp x => ?_) y ?_
  · obtain ⟨k, -, rfl⟩ := (mem_Ly _ _ _).mp hp
    show v (Shape.reshapeEquiv shapeCasts_S16_S1x16 x) = v (lane _)
    rw [rs_s2]
    congr 1
    funext a
    fin_cases a
    refine Fin.ext ?_
    show (x 1).val = _ % 16
    rw [emb_val]
    have h : (x 1).val < 16 := (x 1).isLt
    show (x 1).val = (k % 8 * 16 + (x 1).val) % 16
    omega
  · have h1 : (y 0).val < 2 := (y 0).isLt
    have h2 : (y 1).val < 128 := (y 1).isLt
    refine ⟨_, (mem_Ly _ _ _).mpr ⟨(y 0).val * 8 + (y 1).val / 16, by omega, rfl⟩, ?_⟩
    refine (Rect.mem_set_unit (inb := offY_inb _)).mpr fun a => ?_
    fin_cases a
    · show ((y 0).val * 8 + (y 1).val / 16) / 8 % 2 ≤ (y 0).val ∧ (y 0).val < ((y 0).val * 8 + (y 1).val / 16) / 8 % 2 + 1
      omega
    · show ((y 0).val * 8 + (y 1).val / 16) % 8 * 16 ≤ (y 1).val ∧ (y 1).val < ((y 0).val * 8 + (y 1).val / 16) % 8 * 16 + 16
      omega

set_option maxRecDepth 20000 in
set_option maxHeartbeats 40000000 in
/-- The four hundred stores of the first buffer's fill. -/
theorem zfill (v5 : FVec F S16 .f32) (f : S25x2x128.Idx → F .f32) :
    ((mc5).view.loc (tV d L) ↦{fullShare} f)
    ⊢ (wp frame (wpE (defs₀ (F := F)) 𝒱₀ (tV d L) none) Set.univ
        (k0_part68 L mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1 v5)
        fun _ => ((mc5).view.loc (tV d L) ↦{fullShare} (fillC v5)) : sProp 𝕄) := by
  iintro H1
  sl_exec
  sl_step
  have e := fillC_of v5 mc5.view f
  rw [← e]
  iexact H1

end Cert.Proof.K
end
-- ==== Proof.KTile.lean ====
/-
  The task of one vector subcore.
-/
module

public import proofs.«01_k».proof.Proof.KTrips
public import proofs.«01_k».proof.Proof.KZero

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
section
variable (L : grid0.Coords)

theorem cond1_all : ∀ L : grid0.Coords, k0_cond1 L = 1#1 := by decide +kernel
theorem cond2_all : ∀ L : grid0.Coords, k0_cond2 L = 1#1 := by decide +kernel
theorem cond3_all : ∀ L : grid0.Coords, k0_cond3 L = 1#1 := by decide +kernel
theorem cond4_all : ∀ L : grid0.Coords, k0_cond4 L = 1#1 := by decide +kernel
theorem cond5_all : ∀ L : grid0.Coords, k0_cond5 L = 1#1 := by decide +kernel
theorem cond8_all : ∀ L : grid0.Coords, k0_cond8 L = 1#1 := by decide +kernel
theorem cond9_all : ∀ L : grid0.Coords, k0_cond9 L = 1#1 := by decide +kernel
theorem cond10_all : ∀ L : grid0.Coords, k0_cond10 L = 1#1 := by decide +kernel
theorem cond11_all : ∀ L : grid0.Coords, k0_cond11 L = 1#1 := by decide +kernel
theorem cond12_all : ∀ L : grid0.Coords, k0_cond12 L = 1#1 := by decide +kernel
theorem cond13_iff : ∀ L : grid0.Coords, k0_cond13 L = 1#1 ↔ k0_cond6 L = 1#1 := by decide +kernel
/-- A subcore's number. -/
def wid : ℕ := 2 * (L 1).val + (L 0).val
theorem cond6_iff : ∀ L : grid0.Coords, k0_cond6 L = 1#1 ↔ wid L < 9 := by decide +kernel

/-! ## The cells that a subcore fetches -/

abbrev vc0 : Memref sig .scVector .hbm S25x2x128 .f32 :=
  (mP.slice (Rect.unit (s := S13x13x25x2x2x128) (k0_off1 L) S1x1x25x2x1x128.size (k0_off1_inb L (cond1_all L))) (fun _ => rfl)).squeeze S25x2x128
    squeezes_S1x1x25x2x1x128_S25x2x128
abbrev vf0 : Memref sig .scVector .hbm S2x128 .f32 :=
  (mP.slice (Rect.unit (s := S13x13x25x2x2x128) (k0_off2 L) S1x1x1x2x1x128.size (k0_off2_inb L (cond1_all L))) (fun _ => rfl)).squeeze S2x128
    squeezes_S1x1x1x2x1x128_S2x128
abbrev vc1 : Memref sig .scVector .hbm S25x2x128 .f32 :=
  (mP.slice (Rect.unit (s := S13x13x25x2x2x128) (k0_off3 L) S1x1x25x2x1x128.size (k0_off3_inb L (cond2_all L))) (fun _ => rfl)).squeeze S25x2x128
    squeezes_S1x1x25x2x1x128_S25x2x128
abbrev vf1 : Memref sig .scVector .hbm S2x128 .f32 :=
  (mP.slice (Rect.unit (s := S13x13x25x2x2x128) (k0_off4 L) S1x1x1x2x1x128.size (k0_off4_inb L (cond2_all L))) (fun _ => rfl)).squeeze S2x128
    squeezes_S1x1x1x2x1x128_S2x128
abbrev vc2 : Memref sig .scVector .hbm S25x2x128 .f32 :=
  (mP.slice (Rect.unit (s := S13x13x25x2x2x128) (k0_off5 L) S1x1x25x2x1x128.size (k0_off5_inb L (cond3_all L))) (fun _ => rfl)).squeeze S25x2x128
    squeezes_S1x1x25x2x1x128_S25x2x128
abbrev vf2 : Memref sig .scVector .hbm S2x128 .f32 :=
  (mP.slice (Rect.unit (s := S13x13x25x2x2x128) (k0_off6 L) S1x1x1x2x1x128.size (k0_off6_inb L (cond3_all L))) (fun _ => rfl)).squeeze S2x128
    squeezes_S1x1x1x2x1x128_S2x128
abbrev vc3 : Memref sig .scVector .hbm S25x2x128 .f32 :=
  (mP.slice (Rect.unit (s := S13x13x25x2x2x128) (k0_off7 L) S1x1x25x2x1x128.size (k0_off7_inb L (cond4_all L))) (fun _ => rfl)).squeeze S25x2x128
    squeezes_S1x1x25x2x1x128_S25x2x128
abbrev vf3 : Memref sig .scVector .hbm S2x128 .f32 :=
  (mP.slice (Rect.unit (s := S13x13x25x2x2x128) (k0_off8 L) S1x1x1x2x1x128.size (k0_off8_inb L (cond4_all L))) (fun _ => rfl)).squeeze S2x128
    squeezes_S1x1x1x2x1x128_S2x128
abbrev vc4 : Memref sig .scVector .hbm S25x2x128 .f32 :=
  (mP.slice (Rect.unit (s := S13x13x25x2x2x128) (k0_off9 L) S1x1x25x2x1x128.size (k0_off9_inb L (cond5_all L))) (fun _ => rfl)).squeeze S25x2x128
    squeezes_S1x1x25x2x1x128_S25x2x128
abbrev vf4 : Memref sig .scVector .hbm S2x128 .f32 :=
  (mP.slice (Rect.unit (s := S13x13x25x2x2x128) (k0_off10 L) S1x1x1x2x1x128.size (k0_off10_inb L (cond5_all L))) (fun _ => rfl)).squeeze S2x128
    squeezes_S1x1x1x2x1x128_S2x128
abbrev vc5 (h : k0_cond6 L = 1#1) : Memref sig .scVector .hbm S25x2x128 .f32 :=
  (mP.slice (Rect.unit (s := S13x13x25x2x2x128) (k0_off11 L) S1x1x25x2x1x128.size (k0_off11_inb L h)) (fun _ => rfl)).squeeze S25x2x128
    squeezes_S1x1x25x2x1x128_S25x2x128
abbrev vf5 (h : k0_cond6 L = 1#1) : Memref sig .scVector .hbm S2x128 .f32 :=
  (mP.slice (Rect.unit (s := S13x13x25x2x2x128) (k0_off12 L) S1x1x1x2x1x128.size (k0_off12_inb L h)) (fun _ => rfl)).squeeze S2x128
    squeezes_S1x1x1x2x1x128_S2x128
end

variable [FloatOps F] (d : Dev nD) (L : grid0.Coords)

abbrev bufsEx : sProp 𝕄 := iprop((∃ x, (mc0).view.loc (tV d L) ↦{fullShare} x) ∗ (∃ x, (mf0).view.loc (tV d L) ↦{fullShare} x) ∗ (∃ x, (mc1).view.loc (tV d L) ↦{fullShare} x) ∗ (∃ x, (mf1).view.loc (tV d L) ↦{fullShare} x) ∗ (∃ x, (mc2).view.loc (tV d L) ↦{fullShare} x) ∗ (∃ x, (mf2).view.loc (tV d L) ↦{fullShare} x) ∗ (∃ x, (mc3).view.loc (tV d L) ↦{fullShare} x) ∗ (∃ x, (mf3).view.loc (tV d L) ↦{fullShare} x) ∗ (∃ x, (mc4).view.loc (tV d L) ↦{fullShare} x) ∗ (∃ x, (mf4).view.loc (tV d L) ↦{fullShare} x) ∗ (∃ x, (mc5).view.loc (tV d L) ↦{fullShare} x) ∗ (∃ x, (mf5).view.loc (tV d L) ↦{fullShare} x) ∗ (∃ x, (mbb).view.loc (tV d L) ↦{fullShare} x) ∗ (∃ x, (mcid).view.loc (tV d L) ↦{fullShare} x) ∗ (∃ x, (mtx).view.loc (tV d L) ↦{fullShare} x) ∗ (∃ x, (mty).view.loc (tV d L) ↦{fullShare} x) ∗ (∃ x, (mtw).view.loc (tV d L) ↦{fullShare} x) ∗ (∃ x, (mth).view.loc (tV d L) ↦{fullShare} x) ∗ (∃ x, (macc).view.loc (tV d L) ↦{fullShare} x))

/-- What one transfer of predictions brings: its destination at the cell's numbers, its source's share back. -/
abbrev dlv {S : Shape} (dst : Memref sig .scVector .vmem S .f32) (src : Memref sig .scVector .hbm S .f32) (q : PosShare TreeShare)
    (g : Buf (Elt F) (dst.view.loc (tV d L))) (pf : Buf (Elt F) (src.view.loc (tV d L))) : sProp 𝕄 :=
  iprop((dst.view.loc (tV d L) ↦[dst.view.set]{fullShare} dst.view.writes (Elt F) g [⟨Rect.whole _, ReadAs.same.apply (src.view.read (Elt F) pf)⟩])
    ∗ (src.view.loc (tV d L) ↦[src.view.set]{q} pf))
omit [FloatOps F] in
/-- Each can be stored. -/
theorem dlv_storable {S : Shape} (dst : Memref sig .scVector .vmem S .f32) (src : Memref sig .scVector .hbm S .f32) (q : PosShare TreeShare)
    (g : Buf (Elt F) (dst.view.loc (tV d L))) (pf : Buf (Elt F) (src.view.loc (tV d L))) :
    BI.Storable (upEmb : UEmb _ 𝕄) (dlv d L dst src q g pf) := by infer_instance

/-- A twelfth of a share. -/
abbrev sh (q : PosShare TreeShare) (i : Fin 12) : PosShare TreeShare := Transfers.dealOf q Finset.univ i

/-- The twelve transfers' amounts, -/
abbrev amts12 : Fin 12 → ℕ := ![204800, 8192, 204800, 8192, 204800, 8192, 204800, 8192, 204800, 8192, 204800, 8192]
/-- and what each brings. -/
def deliv12 (h : k0_cond6 L = 1#1) (q : PosShare TreeShare) (pf : S13x13x25x2x2x128.Idx → F .f32)
    (g0 : S25x2x128.Idx → F .f32) (g1 : S2x128.Idx → F .f32) (g2 : S25x2x128.Idx → F .f32) (g3 : S2x128.Idx → F .f32) (g4 : S25x2x128.Idx → F .f32) (g5 : S2x128.Idx → F .f32) (g6 : S25x2x128.Idx → F .f32) (g7 : S2x128.Idx → F .f32) (g8 : S25x2x128.Idx → F .f32) (g9 : S2x128.Idx → F .f32) (g10 : S25x2x128.Idx → F .f32) (g11 : S2x128.Idx → F .f32) : Fin 12 → sProp 𝕄
  | 0 => dlv d L mc0 (vc0 L) (sh q 0) g0 pf
  | 1 => dlv d L mf0 (vf0 L) (sh q 1) g1 pf
  | 2 => dlv d L mc1 (vc1 L) (sh q 2) g2 pf
  | 3 => dlv d L mf1 (vf1 L) (sh q 3) g3 pf
  | 4 => dlv d L mc2 (vc2 L) (sh q 4) g4 pf
  | 5 => dlv d L mf2 (vf2 L) (sh q 5) g5 pf
  | 6 => dlv d L mc3 (vc3 L) (sh q 6) g6 pf
  | 7 => dlv d L mf3 (vf3 L) (sh q 7) g7 pf
  | 8 => dlv d L mc4 (vc4 L) (sh q 8) g8 pf
  | 9 => dlv d L mf4 (vf4 L) (sh q 9) g9 pf
  | 10 => dlv d L mc5 (vc5 L h) (sh q 10) g10 pf
  | 11 => dlv d L mf5 (vf5 L h) (sh q 11) g11 pf
omit [FloatOps F] in
/-- Each can be stored. -/
instance deliv12_storable (h : k0_cond6 L = 1#1) (q : PosShare TreeShare) (pf : S13x13x25x2x2x128.Idx → F .f32)
    (g0 : S25x2x128.Idx → F .f32) (g1 : S2x128.Idx → F .f32) (g2 : S25x2x128.Idx → F .f32) (g3 : S2x128.Idx → F .f32) (g4 : S25x2x128.Idx → F .f32) (g5 : S2x128.Idx → F .f32) (g6 : S25x2x128.Idx → F .f32) (g7 : S2x128.Idx → F .f32) (g8 : S25x2x128.Idx → F .f32) (g9 : S2x128.Idx → F .f32) (g10 : S25x2x128.Idx → F .f32) (g11 : S2x128.Idx → F .f32) (t : Fin 12) :
    BI.Storable (upEmb : UEmb _ 𝕄) (deliv12 d L h q pf g0 g1 g2 g3 g4 g5 g6 g7 g8 g9 g10 g11 t) := by
  fin_cases t <;> exact dlv_storable d L _ _ _ _ _
/-- The ten transfers' amounts, where the sixth slot has no cell, -/
abbrev amts10 : Fin 10 → ℕ := ![204800, 8192, 204800, 8192, 204800, 8192, 204800, 8192, 204800, 8192]
/-- and what each brings. -/
def deliv10 (q : PosShare TreeShare) (pf : S13x13x25x2x2x128.Idx → F .f32)
    (g0 : S25x2x128.Idx → F .f32) (g1 : S2x128.Idx → F .f32) (g2 : S25x2x128.Idx → F .f32) (g3 : S2x128.Idx → F .f32) (g4 : S25x2x128.Idx → F .f32) (g5 : S2x128.Idx → F .f32) (g6 : S25x2x128.Idx → F .f32) (g7 : S2x128.Idx → F .f32) (g8 : S25x2x128.Idx → F .f32) (g9 : S2x128.Idx → F .f32) : Fin 10 → sProp 𝕄
  | 0 => dlv d L mc0 (vc0 L) (sh q 0) g0 pf
  | 1 => dlv d L mf0 (vf0 L) (sh q 1) g1 pf
  | 2 => dlv d L mc1 (vc1 L) (sh q 2) g2 pf
  | 3 => dlv d L mf1 (vf1 L) (sh q 3) g3 pf
  | 4 => dlv d L mc2 (vc2 L) (sh q 4) g4 pf
  | 5 => dlv d L mf2 (vf2 L) (sh q 5) g5 pf
  | 6 => dlv d L mc3 (vc3 L) (sh q 6) g6 pf
  | 7 => dlv d L mf3 (vf3 L) (sh q 7) g7 pf
  | 8 => dlv d L mc4 (vc4 L) (sh q 8) g8 pf
  | 9 => dlv d L mf4 (vf4 L) (sh q 9) g9 pf
omit [FloatOps F] in
/-- Each can be stored. -/
instance deliv10_storable (q : PosShare TreeShare) (pf : S13x13x25x2x2x128.Idx → F .f32)
    (g0 : S25x2x128.Idx → F .f32) (g1 : S2x128.Idx → F .f32) (g2 : S25x2x128.Idx → F .f32) (g3 : S2x128.Idx → F .f32) (g4 : S25x2x128.Idx → F .f32) (g5 : S2x128.Idx → F .f32) (g6 : S25x2x128.Idx → F .f32) (g7 : S2x128.Idx → F .f32) (g8 : S25x2x128.Idx → F .f32) (g9 : S2x128.Idx → F .f32) (t : Fin 10) :
    BI.Storable (upEmb : UEmb _ 𝕄) (deliv10 d L q pf g0 g1 g2 g3 g4 g5 g6 g7 g8 g9 t) := by
  fin_cases t <;> exact dlv_storable d L _ _ _ _ _

omit [FloatOps F] in
/-- A share of a buffer holds any part of it at that share. -/
theorem carve {ℓ : Loc nD τ sig} (S : Finset (Idx ℓ)) (q : PosShare TreeShare) (f : Buf (Elt F) ℓ) :
    ((ℓ ↦{q} f : sProp 𝕄)) ⊢ (ℓ ↦[S]{q} f) :=
  (pointsTo_split_subset (q := q) (f := f) (S := Finset.univ) (Finset.subset_univ S)).1.trans sep_elim_left
omit [FloatOps F] in
/-- A share of a buffer, dealt to twelve readers. -/
theorem deal12 {ℓ : Loc nD τ sig} (q : PosShare TreeShare) (f : Buf (Elt F) ℓ) :
    ((ℓ ↦{q} f : sProp 𝕄)) ⊢ iprop((ℓ ↦{sh q 0} f) ∗ (ℓ ↦{sh q 1} f) ∗ (ℓ ↦{sh q 2} f) ∗ (ℓ ↦{sh q 3} f) ∗ (ℓ ↦{sh q 4} f) ∗ (ℓ ↦{sh q 5} f) ∗ (ℓ ↦{sh q 6} f) ∗ (ℓ ↦{sh q 7} f) ∗ (ℓ ↦{sh q 8} f) ∗ (ℓ ↦{sh q 9} f) ∗ (ℓ ↦{sh q 10} f) ∗ (ℓ ↦{sh q 11} f)) := by
  rw [Transfers.pointsTo_deal (Finset.univ : Finset (Fin 12)) ⟨0, Finset.mem_univ _⟩ q,
    bigSep_univ_eq_bigSepL [0, 1, 2, 3, 4, 5, 6, 7, 8, 9, 10, 11] (by decide) (by decide)]
  exact Entails.rfl
omit [FloatOps F] in
/-- A whole buffer and its own view's part of it are the same, -/
theorem ownSet {S : Shape} (b : Ref sig .scVector) (f : Buf (Elt F) ((Memref.whole b).view.loc (tV d L))) (q : PosShare TreeShare) :
    (((Memref.whole b).view.loc (tV d L) ↦{q} f : sProp 𝕄)) = ((Memref.whole b).view.loc (tV d L) ↦[(Memref.whole b).view.set]{q} f) := by
  rw [show (Memref.whole b).view.set = Finset.univ from View.set_whole _]

omit [FloatOps F] in
/-- A share of the predictions, dealt to the twelve transfers, each its own cell; -/
theorem lend12 (h : k0_cond6 L = 1#1) (q : PosShare TreeShare) (pf : S13x13x25x2x2x128.Idx → F .f32) :
    ((mP.view.loc (tV d L) ↦{q} pf : sProp 𝕄)) ⊢ iprop(((vc0 L).view.loc (tV d L) ↦[(vc0 L).view.set]{sh q 0} pf) ∗ ((vf0 L).view.loc (tV d L) ↦[(vf0 L).view.set]{sh q 1} pf) ∗ ((vc1 L).view.loc (tV d L) ↦[(vc1 L).view.set]{sh q 2} pf) ∗ ((vf1 L).view.loc (tV d L) ↦[(vf1 L).view.set]{sh q 3} pf) ∗ ((vc2 L).view.loc (tV d L) ↦[(vc2 L).view.set]{sh q 4} pf) ∗ ((vf2 L).view.loc (tV d L) ↦[(vf2 L).view.set]{sh q 5} pf) ∗ ((vc3 L).view.loc (tV d L) ↦[(vc3 L).view.set]{sh q 6} pf) ∗ ((vf3 L).view.loc (tV d L) ↦[(vf3 L).view.set]{sh q 7} pf) ∗ ((vc4 L).view.loc (tV d L) ↦[(vc4 L).view.set]{sh q 8} pf) ∗ ((vf4 L).view.loc (tV d L) ↦[(vf4 L).view.set]{sh q 9} pf) ∗ ((vc5 L h).view.loc (tV d L) ↦[(vc5 L h).view.set]{sh q 10} pf) ∗ ((vf5 L h).view.loc (tV d L) ↦[(vf5 L h).view.set]{sh q 11} pf)) := by
  iintro HP
  ihave HP := (deal12 (ℓ := mP.view.loc (tV d L)) q pf) $$ HP
  icases HP with ⟨H0, H1, H2, H3, H4, H5, H6, H7, H8, H9, H10, H11⟩
  isplitl [H0]; · iapply (carve (ℓ := mP.view.loc (tV d L)) (vc0 L).view.set (sh q 0) pf); iexact H0
  isplitl [H1]; · iapply (carve (ℓ := mP.view.loc (tV d L)) (vf0 L).view.set (sh q 1) pf); iexact H1
  isplitl [H2]; · iapply (carve (ℓ := mP.view.loc (tV d L)) (vc1 L).view.set (sh q 2) pf); iexact H2
  isplitl [H3]; · iapply (carve (ℓ := mP.view.loc (tV d L)) (vf1 L).view.set (sh q 3) pf); iexact H3
  isplitl [H4]; · iapply (carve (ℓ := mP.view.loc (tV d L)) (vc2 L).view.set (sh q 4) pf); iexact H4
  isplitl [H5]; · iapply (carve (ℓ := mP.view.loc (tV d L)) (vf2 L).view.set (sh q 5) pf); iexact H5
  isplitl [H6]; · iapply (carve (ℓ := mP.view.loc (tV d L)) (vc3 L).view.set (sh q 6) pf); iexact H6
  isplitl [H7]; · iapply (carve (ℓ := mP.view.loc (tV d L)) (vf3 L).view.set (sh q 7) pf); iexact H7
  isplitl [H8]; · iapply (carve (ℓ := mP.view.loc (tV d L)) (vc4 L).view.set (sh q 8) pf); iexact H8
  isplitl [H9]; · iapply (carve (ℓ := mP.view.loc (tV d L)) (vf4 L).view.set (sh q 9) pf); iexact H9
  isplitl [H10]; · iapply (carve (ℓ := mP.view.loc (tV d L)) (vc5 L h).view.set (sh q 10) pf); iexact H10
  iapply (carve (ℓ := mP.view.loc (tV d L)) (vf5 L h).view.set (sh q 11) pf); iexact H11
omit [FloatOps F] in
/-- or to ten. -/
theorem lend10 (q : PosShare TreeShare) (pf : S13x13x25x2x2x128.Idx → F .f32) :
    ((mP.view.loc (tV d L) ↦{q} pf : sProp 𝕄)) ⊢ iprop(((vc0 L).view.loc (tV d L) ↦[(vc0 L).view.set]{sh q 0} pf) ∗ ((vf0 L).view.loc (tV d L) ↦[(vf0 L).view.set]{sh q 1} pf) ∗ ((vc1 L).view.loc (tV d L) ↦[(vc1 L).view.set]{sh q 2} pf) ∗ ((vf1 L).view.loc (tV d L) ↦[(vf1 L).view.set]{sh q 3} pf) ∗ ((vc2 L).view.loc (tV d L) ↦[(vc2 L).view.set]{sh q 4} pf) ∗ ((vf2 L).view.loc (tV d L) ↦[(vf2 L).view.set]{sh q 5} pf) ∗ ((vc3 L).view.loc (tV d L) ↦[(vc3 L).view.set]{sh q 6} pf) ∗ ((vf3 L).view.loc (tV d L) ↦[(vf3 L).view.set]{sh q 7} pf) ∗ ((vc4 L).view.loc (tV d L) ↦[(vc4 L).view.set]{sh q 8} pf) ∗ ((vf4 L).view.loc (tV d L) ↦[(vf4 L).view.set]{sh q 9} pf)) := by
  iintro HP
  ihave HP := (deal12 (ℓ := mP.view.loc (tV d L)) q pf) $$ HP
  icases HP with ⟨H0, H1, H2, H3, H4, H5, H6, H7, H8, H9, -⟩
  isplitl [H0]; · iapply (carve (ℓ := mP.view.loc (tV d L)) (vc0 L).view.set (sh q 0) pf); iexact H0
  isplitl [H1]; · iapply (carve (ℓ := mP.view.loc (tV d L)) (vf0 L).view.set (sh q 1) pf); iexact H1
  isplitl [H2]; · iapply (carve (ℓ := mP.view.loc (tV d L)) (vc1 L).view.set (sh q 2) pf); iexact H2
  isplitl [H3]; · iapply (carve (ℓ := mP.view.loc (tV d L)) (vf1 L).view.set (sh q 3) pf); iexact H3
  isplitl [H4]; · iapply (carve (ℓ := mP.view.loc (tV d L)) (vc2 L).view.set (sh q 4) pf); iexact H4
  isplitl [H5]; · iapply (carve (ℓ := mP.view.loc (tV d L)) (vf2 L).view.set (sh q 5) pf); iexact H5
  isplitl [H6]; · iapply (carve (ℓ := mP.view.loc (tV d L)) (vc3 L).view.set (sh q 6) pf); iexact H6
  isplitl [H7]; · iapply (carve (ℓ := mP.view.loc (tV d L)) (vf3 L).view.set (sh q 7) pf); iexact H7
  isplitl [H8]; · iapply (carve (ℓ := mP.view.loc (tV d L)) (vc4 L).view.set (sh q 8) pf); iexact H8
  iapply (carve (ℓ := mP.view.loc (tV d L)) (vf4 L).view.set (sh q 9) pf); iexact H9

/-- The test that clears the sixth slot: off where that slot has a cell, on where it has none. -/
abbrev zbit (L : grid0.Coords) : BitVec 1 :=
  Scalar.cmpi .ne (Scalar.extui (Scalar.cmpi .sge (Scalar.addi 160#32 (Scalar.addi (Scalar.muli (BitVec.ofNat 32 (L 1).val) 2#32) (BitVec.ofNat 32 (L 0).val))) 169#32) : BitVec 32) 0#32
theorem zbit_off : ∀ L : grid0.Coords, k0_cond6 L = 1#1 → ¬ zbit L = 1#1 := by decide +kernel
theorem zbit_on : ∀ L : grid0.Coords, ¬ k0_cond6 L = 1#1 → zbit L = 1#1 := by decide +kernel

end Cert.Proof.K
end
-- ==== Proof.KCell.lean ====
/-
  Which cell's predictions each transfer brings.
-/
module

public import proofs.«01_k».proof.Proof.KTile

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- The place of a prediction: cell `n`, channel, half of the batch, anchor, lane. -/
def ix6 (n : ℕ) (c : Fin 25) (a : Fin 2) (k : Fin 2) (e : Fin 128) : S13x13x25x2x2x128.Idx :=
  fun | 0 => ⟨n / 13 % 13, Nat.mod_lt _ (by decide)⟩ | 1 => ⟨n % 13, Nat.mod_lt _ (by decide)⟩ | 2 => c | 3 => a | 4 => k | 5 => e
/-- Cell `n` of the predictions, its first anchor, -/
def cellC (pf : S13x13x25x2x2x128.Idx → F .f32) (n : ℕ) : S25x2x128.Idx → F .f32 :=
  fun y => pf (ix6 n (y 0) (y 1) ⟨0, by decide⟩ (y 2))
/-- and its second anchor's confidence. -/
def cellF (pf : S13x13x25x2x2x128.Idx → F .f32) (n : ℕ) : S2x128.Idx → F .f32 :=
  fun y => pf (ix6 n ⟨4, by decide⟩ (y 0) ⟨1, by decide⟩ (y 1))

theorem rs_6c (y : S25x2x128.Idx) : Shape.reshapeEquiv squeezes_S1x1x25x2x1x128_S25x2x128.numel_eq y
    = (fun | 0 => ⟨0, by decide⟩ | 1 => ⟨0, by decide⟩ | 2 => y 0 | 3 => y 1 | 4 => ⟨0, by decide⟩ | 5 => y 2 : S1x1x25x2x1x128.Idx) := by
  revert y; decide +kernel
theorem rs_6f (y : S2x128.Idx) : Shape.reshapeEquiv squeezes_S1x1x1x2x1x128_S2x128.numel_eq y
    = (fun | 0 => ⟨0, by decide⟩ | 1 => ⟨0, by decide⟩ | 2 => ⟨0, by decide⟩ | 3 => y 0 | 4 => ⟨0, by decide⟩ | 5 => y 1 : S1x1x1x2x1x128.Idx) := by
  revert y; decide +kernel

/-- Where a fetched cell's numbers lie among the predictions, -/
theorem emb_c (off : Fin 6 → ℕ) (hin) (n : ℕ) (h : off = ![n / 13 % 13, n % 13, 0, 0, 0, 0]) (y : S25x2x128.Idx) :
    (Rect.unit (s := S13x13x25x2x2x128) off S1x1x25x2x1x128.size hin).emb (Shape.reshapeEquiv squeezes_S1x1x25x2x1x128_S25x2x128.numel_eq y)
      = ix6 n (y 0) (y 1) ⟨0, by decide⟩ (y 2) := by
  subst h; rw [rs_6c]; funext a; fin_cases a <;> (refine Fin.ext ?_; simp [Rect.unit, Rect.emb, ix6])
/-- and a fetched confidence's. -/
theorem emb_f (off : Fin 6 → ℕ) (hin) (n : ℕ) (h : off = ![n / 13 % 13, n % 13, 4, 0, 1, 0]) (y : S2x128.Idx) :
    (Rect.unit (s := S13x13x25x2x2x128) off S1x1x1x2x1x128.size hin).emb (Shape.reshapeEquiv squeezes_S1x1x1x2x1x128_S2x128.numel_eq y)
      = ix6 n ⟨4, by decide⟩ (y 0) ⟨1, by decide⟩ (y 1) := by
  subst h; rw [rs_6f]; funext a; fin_cases a <;> (refine Fin.ext ?_; simp [Rect.unit, Rect.emb, ix6])

/-- The transfers' offsets: slot by slot, a subcore's cells are 32 apart. -/
def offP : Fin 6 → grid0.Coords → Fin 6 → ℕ := ![k0_off1, k0_off3, k0_off5, k0_off7, k0_off9, k0_off11]
def offQ : Fin 6 → grid0.Coords → Fin 6 → ℕ := ![k0_off2, k0_off4, k0_off6, k0_off8, k0_off10, k0_off12]
theorem offP_eq : ∀ (s : Fin 6) (L : grid0.Coords), k0_cond6 L = 1#1 ∨ s.val < 5 →
    offP s L = ![(32 * s.val + wid L) / 13 % 13, (32 * s.val + wid L) % 13, 0, 0, 0, 0] := by decide +kernel
theorem offQ_eq : ∀ (s : Fin 6) (L : grid0.Coords), k0_cond6 L = 1#1 ∨ s.val < 5 →
    offQ s L = ![(32 * s.val + wid L) / 13 % 13, (32 * s.val + wid L) % 13, 4, 0, 1, 0] := by decide +kernel

variable [FloatOps F] (L : grid0.Coords)
/-- What slot `s` of subcore `w` holds when the sum runs: its cell's predictions, or zeros where there is no such cell; -/
def xcT (pf : S13x13x25x2x2x128.Idx → F .f32) (w : ℕ) (s : Fin 6) : S25x2x128.Idx → F .f32 :=
  if 32 * s.val + w < 169 then cellC pf (32 * s.val + w) else fillC k0_pay595
/-- likewise the second anchor's confidence. -/
def xfT (pf : S13x13x25x2x2x128.Idx → F .f32) (w : ℕ) (s : Fin 6) : S2x128.Idx → F .f32 :=
  if 32 * s.val + w < 169 then cellF pf (32 * s.val + w) else fillF k0_pay595

theorem wid_lt : ∀ L : grid0.Coords, wid L < 32 := by decide +kernel
theorem slot_real (s : Fin 6) (h : k0_cond6 L = 1#1 ∨ s.val < 5) : 32 * s.val + wid L < 169 := by
  have := wid_lt L
  rcases h with h | h
  · have := (cond6_iff L).mp h; have := s.isLt; omega
  · omega
/-- A transfer of a slot's cell reads the cell; -/
theorem read_c (s : Fin 6) (h : k0_cond6 L = 1#1 ∨ s.val < 5) (hin) (pf : S13x13x25x2x2x128.Idx → F .f32) :
    (((mP.slice (Rect.unit (s := S13x13x25x2x2x128) (offP s L) S1x1x25x2x1x128.size hin) (fun _ => rfl)).squeeze S25x2x128
      squeezes_S1x1x25x2x1x128_S25x2x128).view.read (Elt F) pf : S25x2x128.Idx → F .f32) = xcT pf (wid L) s := by
  rw [xcT, if_pos (slot_real L s h)]
  funext y
  exact congrArg pf (emb_c _ hin _ (offP_eq s L h) y)
/-- and of its confidence. -/
theorem read_f (s : Fin 6) (h : k0_cond6 L = 1#1 ∨ s.val < 5) (hin) (pf : S13x13x25x2x2x128.Idx → F .f32) :
    (((mP.slice (Rect.unit (s := S13x13x25x2x2x128) (offQ s L) S1x1x1x2x1x128.size hin) (fun _ => rfl)).squeeze S2x128
      squeezes_S1x1x1x2x1x128_S2x128).view.read (Elt F) pf : S2x128.Idx → F .f32) = xfT pf (wid L) s := by
  rw [xfT, if_pos (slot_real L s h)]
  funext y
  exact congrArg pf (emb_f _ hin _ (offQ_eq s L h) y)
theorem xcT_zero (pf : S13x13x25x2x2x128.Idx → F .f32) (h : ¬ k0_cond6 L = 1#1) : xcT pf (wid L) 5 = fillC k0_pay595 :=
  if_neg (fun h' => h ((cond6_iff L).mpr (by change 32 * 5 + wid L < 169 at h'; omega)))
theorem xfT_zero (pf : S13x13x25x2x2x128.Idx → F .f32) (h : ¬ k0_cond6 L = 1#1) : xfT pf (wid L) 5 = fillF k0_pay595 :=
  if_neg (fun h' => h ((cond6_iff L).mpr (by change 32 * 5 + wid L < 169 at h'; omega)))

/-- The row a subcore writes: lane by lane the sum over its sixteen trips. -/
def rowV (pf : S13x13x25x2x2x128.Idx → F .f32) (bf : S8x2x4x128.Idx → F .f32) : S16.Idx → F .f32 :=
  k0_pay2 (accL (Scalar.addi (Scalar.muli (BitVec.ofNat 32 (L 1).val) 2#32) (BitVec.ofNat 32 (L 0).val)) (iota .scVector S16 32 [0] iota_S16_d0_w32_scVector) k0_pay595
    (Gcid bf) ![Gtx bf, Gty bf, Gtw bf, Gth bf] (xcT pf (wid L)) (xfT pf (wid L)) 16) k0_pay595

end Cert.Proof.K
end
-- ==== Proof.KBody.lean ====
/-
  The task of one vector subcore, run.
-/
module

public import Idealize.ShloMosaic.Lib.VecWindow
public import proofs.«01_k».proof.Proof.KCell

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F] (d : Dev nD) (L : grid0.Coords)

/-- The row of the result that a subcore writes. -/
abbrev vO : Memref sig .scVector .hbm S16 .f32 :=
  (mO.slice (Rect.unit (s := S32x16) (k0_off64 L) S1x16.size (k0_off64_inb L)) (fun _ => rfl)).squeeze S16 squeezes_S1x16_S16

/-- What a task ends with: its row at the sums, its own buffers at something, its semaphores at zero. -/
abbrev bodyPost (pf : S13x13x25x2x2x128.Idx → F .f32) (bf : S8x2x4x128.Idx → F .f32) (O : CellTallies nD τ sig (HIx 1)) (W : Waits sig (HIx 1)) : sProp 𝕄 :=
  iprop((∃ o', ⌜(vO L).view.read (Elt F) o' = rowV L pf bf⌝ ∗ ((vO L).view.loc (tV d L) ↦[(vO L).view.set]{fullShare} o'))
    ∗ bufsEx d L ∗ semVal (tV d L, SemLoc.dma cc0_scratch19.sem) 0 ∗ semVal (tV d L, SemLoc.dma cc0_scoped0.sem) 0 ∗ semVal (tV d L, SemLoc.dma cc0_scoped1.sem) 0
    ∗ ∃ W', ⌜∀ p ∈ W', p ∈ W ∨ p.2 = none⌝ ∗ owes (tV d L) O W')

omit [FloatOps F] in
/-- A buffer that a transfer filled holds what the transfer read. -/
theorem landed {b : Ref sig .scVector} (g : Buf (Elt F) ((Memref.whole b).view.loc (tV d L))) (w : (Rect.whole b.ty.shape).shape.Idx → Elt F b.ty.elt)
    (w' : Buf (Elt F) ((Memref.whole b).view.loc (tV d L))) (hw : w = w') :
    (((Memref.whole b).view.loc (tV d L) ↦[(Memref.whole b).view.set]{fullShare} (Memref.whole b).view.writes (Elt F) g [⟨Rect.whole b.ty.shape, w⟩] : sProp 𝕄))
      ⊢ ((Memref.whole b).view.loc (tV d L) ↦{fullShare} w') := by
  subst hw
  rw [ownSet d L (S := b.ty.shape)]
  exact Entails.of_eq (congrArg _ ((View.write_univ_eq_writes_whole (Memref.whole b).view g [] w).symm.trans (View.write_whole_univ _ _ _)))

/-- What the row of the result reads after its transfer: the last store of the sums' buffer. -/
theorem read_row (o : S32x16.Idx → F .f32) (w w' : S16.Idx → F .f32) (Ls : List (View.Piece (Elt F) S16 .f32)) (hw : w = w') :
    (vO L).view.read (Elt F) ((vO L).view.writes (Elt F) o [⟨Rect.whole S16, ReadAs.same.apply (macc.view.read (Elt F)
      (macc.view.writes (Elt F) macc.view.junk (⟨Rect.unit ![0] S16.size inb_S16_S16_0, w⟩ :: Ls)))⟩]) = w' := by
  subst hw
  exact (congrArg _ (View.write_univ_eq_writes_whole (Val := Elt F) (vO L).view o [] _).symm).trans
    ((View.read_write_univ (Val := Elt F) _ _).trans (View.read_writes_full macc.view _ inb_S16_S16_0 w Ls))

set_option pp.deepTerms false in
set_option pp.deepTerms.threshold 6 in
set_option maxRecDepth 20000 in
set_option maxHeartbeats 4000000 in
/-- A task whose six slots all have a cell. -/
theorem body_real (h : k0_cond6 L = 1#1) (q qb : PosShare TreeShare) (pf : S13x13x25x2x2x128.Idx → F .f32) (bf : S8x2x4x128.Idx → F .f32)
    (o : S32x16.Idx → F .f32) (O : CellTallies nD τ sig (HIx 1)) (W : Waits sig (HIx 1)) :
    iprop(Transfers.MayWaits (tV d L) (default : HIx 1) O ∗ (mP.view.loc (tV d L) ↦{q} pf) ∗ (mB.view.loc (tV d L) ↦{qb} bf)
        ∗ ((vO L).view.loc (tV d L) ↦[(vO L).view.set]{fullShare} o)
        ∗ bufsEx d L ∗ semVal (tV d L, SemLoc.dma cc0_scratch19.sem) 0 ∗ semVal (tV d L, SemLoc.dma cc0_scoped0.sem) 0 ∗ semVal (tV d L, SemLoc.dma cc0_scoped1.sem) 0 ∗ owes (tV d L) O W)
    ⊢ (wp frame (wpE (defs₀ (F := F)) 𝒱₀ (tV d L) none) Set.univ (cc0__yolo_sc L mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1) fun _ => bodyPost d L pf bf O W : sProp 𝕄) := by
  iintro ⟨Hmw, HP, HB, HOut, ⟨⟨%g0, Hm0⟩, ⟨%g1, Hm1⟩, ⟨%g2, Hm2⟩, ⟨%g3, Hm3⟩, ⟨%g4, Hm4⟩, ⟨%g5, Hm5⟩, ⟨%g6, Hm6⟩, ⟨%g7, Hm7⟩, ⟨%g8, Hm8⟩, ⟨%g9, Hm9⟩, ⟨%g10, Hm10⟩, ⟨%g11, Hm11⟩, ⟨%xbb, Hbb⟩, ⟨%xcid, Hcid⟩, ⟨%xtx, Htx⟩, ⟨%xty, Hty⟩, ⟨%xtw, Htw⟩, ⟨%xth, Hth⟩, ⟨%xacc, Hacc⟩⟩, Hsem, Hq0, Hq1, HO⟩
  ihave HP := (lend12 d L h q pf) $$ HP
  icases HP with ⟨HS0, HS1, HS2, HS3, HS4, HS5, HS6, HS7, HS8, HS9, HS10, HS11⟩
  ihave Hm0 := (Entails.of_eq (ownSet d L (S := S25x2x128) cc0_scratch0 g0 fullShare)) $$ Hm0
  ihave Hm1 := (Entails.of_eq (ownSet d L (S := S2x128) cc0_scratch1 g1 fullShare)) $$ Hm1
  ihave Hm2 := (Entails.of_eq (ownSet d L (S := S25x2x128) cc0_scratch2 g2 fullShare)) $$ Hm2
  ihave Hm3 := (Entails.of_eq (ownSet d L (S := S2x128) cc0_scratch3 g3 fullShare)) $$ Hm3
  ihave Hm4 := (Entails.of_eq (ownSet d L (S := S25x2x128) cc0_scratch4 g4 fullShare)) $$ Hm4
  ihave Hm5 := (Entails.of_eq (ownSet d L (S := S2x128) cc0_scratch5 g5 fullShare)) $$ Hm5
  ihave Hm6 := (Entails.of_eq (ownSet d L (S := S25x2x128) cc0_scratch6 g6 fullShare)) $$ Hm6
  ihave Hm7 := (Entails.of_eq (ownSet d L (S := S2x128) cc0_scratch7 g7 fullShare)) $$ Hm7
  ihave Hm8 := (Entails.of_eq (ownSet d L (S := S25x2x128) cc0_scratch8 g8 fullShare)) $$ Hm8
  ihave Hm9 := (Entails.of_eq (ownSet d L (S := S2x128) cc0_scratch9 g9 fullShare)) $$ Hm9
  ihave Hm10 := (Entails.of_eq (ownSet d L (S := S25x2x128) cc0_scratch10 g10 fullShare)) $$ Hm10
  ihave Hm11 := (Entails.of_eq (ownSet d L (S := S2x128) cc0_scratch11 g11 fullShare)) $$ Hm11
  imod (Transfers.mixedBatch_alloc' (Lvl := ℕ) (countersEmb (U := UU)) (tV d L) (default : HIx 1) amts12 (deliv12 d L h q pf g0 g1 g2 g3 g4 g5 g6 g7 g8 g9 g10 g11) (sm := .dma cc0_scratch19.sem) (E := Set.univ)) $$ Hsem with HBt
  have hc1 := cond1_all L
  have hc2 := cond2_all L
  have hc3 := cond3_all L
  have hc4 := cond4_all L
  have hc5 := cond5_all L
  have hc8 := cond8_all L
  have hc9 := cond9_all L
  have hc10 := cond10_all L
  have hc11 := cond11_all L
  have hc12 := cond12_all L
  have hc13 := (cond13_iff L).mpr h
  unfold deliv12
  rw [cc0__yolo_sc_eq_skeleton]
  unfold cc0__yolo_sc_skel
  sl_exec
  have hz : ¬ body_real.sl.v32 L = 1#1 := zbit_off L h
  sl_exec
  ihave Hbb := (Entails.of_eq (show (mbb.view.loc (tV d L) ↦{fullShare} View.write (Elt F) mbb.view xbb (body_real.sl.dma0_1 bf) Finset.univ : sProp 𝕄)
    = (mbb.view.loc (tV d L) ↦{fullShare} bf) from congrArg _ (View.write_whole_univ _ _ _))) $$ Hbb
  sl_for (fun (n : ℕ) (_ : BitVec 32) => heldG d L bf n) $$ [Hbb Hcid Htx Hty Htw Hth]
  case region => exact fun k a => trip1 d L _ _ _ k a bf
  · iexists xcid, xtx, xty, xtw, xth
    isplitr
    · ipureintro; exact ⟨Done.zero _ _, Done.zero _ _, Done.zero _ _, Done.zero _ _, Done.zero _ _⟩
    · iframe Hbb Hcid Htx Hty Htw Hth
  iintro %_ HI
  icases HI with ⟨%f18, %f19, %f20, %f21, %f22, %hd, Hbb, Hcid, Htx, Hty, Htw, Hth⟩
  obtain ⟨h18, h19, h20, h21, h22⟩ := hd
  have h18 : f18 = Gcid bf := Done.all h18
  have h19 : f19 = Gtx bf := Done.all h19
  have h20 : f20 = Gty bf := Done.all h20
  have h21 : f21 = Gtw bf := Done.all h21
  have h22 : f22 = Gth bf := Done.all h22
  subst h18 h19 h20 h21 h22
  sl_exec
  ihave Hm0 := (show (mc0.view.loc (tV d L) ↦[mc0.view.set]{fullShare} mc0.view.writes (Elt F) mc0.view.junk [⟨Rect.whole _, ReadAs.same.apply ((vc0 L).view.read (Elt F) pf)⟩] : sProp 𝕄)
      ⊢ (mc0.view.loc (tV d L) ↦{fullShare} xcT pf (wid L) 0) from landed d L (b := cc0_scratch0) _ _ (xcT pf (wid L) 0) (read_c L 0 (.inr (by decide)) _ pf)) $$ HBt_dst0
  ihave Hm1 := (show (mf0.view.loc (tV d L) ↦[mf0.view.set]{fullShare} mf0.view.writes (Elt F) mf0.view.junk [⟨Rect.whole _, ReadAs.same.apply ((vf0 L).view.read (Elt F) pf)⟩] : sProp 𝕄)
      ⊢ (mf0.view.loc (tV d L) ↦{fullShare} xfT pf (wid L) 0) from landed d L (b := cc0_scratch1) _ _ (xfT pf (wid L) 0) (read_f L 0 (.inr (by decide)) _ pf)) $$ HBt_dst1
  ihave Hm2 := (show (mc1.view.loc (tV d L) ↦[mc1.view.set]{fullShare} mc1.view.writes (Elt F) mc1.view.junk [⟨Rect.whole _, ReadAs.same.apply ((vc1 L).view.read (Elt F) pf)⟩] : sProp 𝕄)
      ⊢ (mc1.view.loc (tV d L) ↦{fullShare} xcT pf (wid L) 1) from landed d L (b := cc0_scratch2) _ _ (xcT pf (wid L) 1) (read_c L 1 (.inr (by decide)) _ pf)) $$ HBt_dst2
  ihave Hm3 := (show (mf1.view.loc (tV d L) ↦[mf1.view.set]{fullShare} mf1.view.writes (Elt F) mf1.view.junk [⟨Rect.whole _, ReadAs.same.apply ((vf1 L).view.read (Elt F) pf)⟩] : sProp 𝕄)
      ⊢ (mf1.view.loc (tV d L) ↦{fullShare} xfT pf (wid L) 1) from landed d L (b := cc0_scratch3) _ _ (xfT pf (wid L) 1) (read_f L 1 (.inr (by decide)) _ pf)) $$ HBt_dst3
  ihave Hm4 := (show (mc2.view.loc (tV d L) ↦[mc2.view.set]{fullShare} mc2.view.writes (Elt F) mc2.view.junk [⟨Rect.whole _, ReadAs.same.apply ((vc2 L).view.read (Elt F) pf)⟩] : sProp 𝕄)
      ⊢ (mc2.view.loc (tV d L) ↦{fullShare} xcT pf (wid L) 2) from landed d L (b := cc0_scratch4) _ _ (xcT pf (wid L) 2) (read_c L 2 (.inr (by decide)) _ pf)) $$ HBt_dst4
  ihave Hm5 := (show (mf2.view.loc (tV d L) ↦[mf2.view.set]{fullShare} mf2.view.writes (Elt F) mf2.view.junk [⟨Rect.whole _, ReadAs.same.apply ((vf2 L).view.read (Elt F) pf)⟩] : sProp 𝕄)
      ⊢ (mf2.view.loc (tV d L) ↦{fullShare} xfT pf (wid L) 2) from landed d L (b := cc0_scratch5) _ _ (xfT pf (wid L) 2) (read_f L 2 (.inr (by decide)) _ pf)) $$ HBt_dst5
  ihave Hm6 := (show (mc3.view.loc (tV d L) ↦[mc3.view.set]{fullShare} mc3.view.writes (Elt F) mc3.view.junk [⟨Rect.whole _, ReadAs.same.apply ((vc3 L).view.read (Elt F) pf)⟩] : sProp 𝕄)
      ⊢ (mc3.view.loc (tV d L) ↦{fullShare} xcT pf (wid L) 3) from landed d L (b := cc0_scratch6) _ _ (xcT pf (wid L) 3) (read_c L 3 (.inr (by decide)) _ pf)) $$ HBt_dst6
  ihave Hm7 := (show (mf3.view.loc (tV d L) ↦[mf3.view.set]{fullShare} mf3.view.writes (Elt F) mf3.view.junk [⟨Rect.whole _, ReadAs.same.apply ((vf3 L).view.read (Elt F) pf)⟩] : sProp 𝕄)
      ⊢ (mf3.view.loc (tV d L) ↦{fullShare} xfT pf (wid L) 3) from landed d L (b := cc0_scratch7) _ _ (xfT pf (wid L) 3) (read_f L 3 (.inr (by decide)) _ pf)) $$ HBt_dst7
  ihave Hm8 := (show (mc4.view.loc (tV d L) ↦[mc4.view.set]{fullShare} mc4.view.writes (Elt F) mc4.view.junk [⟨Rect.whole _, ReadAs.same.apply ((vc4 L).view.read (Elt F) pf)⟩] : sProp 𝕄)
      ⊢ (mc4.view.loc (tV d L) ↦{fullShare} xcT pf (wid L) 4) from landed d L (b := cc0_scratch8) _ _ (xcT pf (wid L) 4) (read_c L 4 (.inr (by decide)) _ pf)) $$ HBt_dst8
  ihave Hm9 := (show (mf4.view.loc (tV d L) ↦[mf4.view.set]{fullShare} mf4.view.writes (Elt F) mf4.view.junk [⟨Rect.whole _, ReadAs.same.apply ((vf4 L).view.read (Elt F) pf)⟩] : sProp 𝕄)
      ⊢ (mf4.view.loc (tV d L) ↦{fullShare} xfT pf (wid L) 4) from landed d L (b := cc0_scratch9) _ _ (xfT pf (wid L) 4) (read_f L 4 (.inr (by decide)) _ pf)) $$ HBt_dst9
  ihave Hm10 := (show (mc5.view.loc (tV d L) ↦[mc5.view.set]{fullShare} mc5.view.writes (Elt F) mc5.view.junk [⟨Rect.whole _, ReadAs.same.apply ((vc5 L h).view.read (Elt F) pf)⟩] : sProp 𝕄)
      ⊢ (mc5.view.loc (tV d L) ↦{fullShare} xcT pf (wid L) 5) from landed d L (b := cc0_scratch10) _ _ (xcT pf (wid L) 5) (read_c L 5 (.inl h) _ pf)) $$ HBt_dst10
  ihave Hm11 := (show (mf5.view.loc (tV d L) ↦[mf5.view.set]{fullShare} mf5.view.writes (Elt F) mf5.view.junk [⟨Rect.whole _, ReadAs.same.apply ((vf5 L h).view.read (Elt F) pf)⟩] : sProp 𝕄)
      ⊢ (mf5.view.loc (tV d L) ↦{fullShare} xfT pf (wid L) 5) from landed d L (b := cc0_scratch11) _ _ (xfT pf (wid L) 5) (read_f L 5 (.inl h) _ pf)) $$ HBt_dst11
  sl_for (fun (n : ℕ) (a : FVec F S16 .f32) => iprop(⌜a = accL (Scalar.addi (Scalar.muli (BitVec.ofNat 32 (L 1).val) 2#32) (BitVec.ofNat 32 (L 0).val)) (iota .scVector S16 32 [0] iota_S16_d0_w32_scVector) k0_pay595 (Gcid bf) ![Gtx bf, Gty bf, Gtw bf, Gth bf] (xcT pf (wid L)) (xfT pf (wid L)) n⌝ ∗ heldT d L (Gcid bf) ![Gtx bf, Gty bf, Gtw bf, Gth bf] (xcT pf (wid L)) (xfT pf (wid L)))) $$ [Hcid Htx Hty Htw Hth Hm0 Hm1 Hm2 Hm3 Hm4 Hm5 Hm6 Hm7 Hm8 Hm9 Hm10 Hm11]
  case region =>
    intro k a
    iintro ⟨%ha, HI⟩
    subst ha
    iapply (trip2 d L (Scalar.addi (Scalar.muli (BitVec.ofNat 32 (L 1).val) 2#32) (BitVec.ofNat 32 (L 0).val)) (iota .scVector S16 32 [0] iota_S16_d0_w32_scVector) k0_pay595 k _ (Gcid bf) ![Gtx bf, Gty bf, Gtw bf, Gth bf] (xcT pf (wid L)) (xfT pf (wid L))); iexact HI
  · isplitr
    · ipureintro; rfl
    · iframe Hcid Htx Hty Htw Hth Hm0 Hm1 Hm2 Hm3 Hm4 Hm5 Hm6 Hm7 Hm8 Hm9 Hm10 Hm11
  iintro %acc HI
  icases HI with ⟨%ha, Hcid, Htx, Hty, Htw, Hth, Hm0, Hm1, Hm2, Hm3, Hm4, Hm5, Hm6, Hm7, Hm8, Hm9, Hm10, Hm11⟩
  sl_exec
  sl_step
  isplitl [HOut]
  · iexists _; isplitr; swap; · iexact HOut
    ipureintro
    refine read_row L o _ _ _ ?_
    rw [show body_real.sl.v64 = (k0_pay595 : FVec F S16 .f32) from (View.readCov_full _ _ _ _ _).trans (funext fun i => congrArg k0_pay595 (Shape.reshapeEquiv_self _ i)), ha]
    rfl
  isplitl [Hbb Hcid Htx Hty Htw Hth Hacc Hm0 Hm1 Hm2 Hm3 Hm4 Hm5 Hm6 Hm7 Hm8 Hm9 Hm10 Hm11]
  · isplitl [Hm0]; · iexists _; iexact Hm0
    isplitl [Hm1]; · iexists _; iexact Hm1
    isplitl [Hm2]; · iexists _; iexact Hm2
    isplitl [Hm3]; · iexists _; iexact Hm3
    isplitl [Hm4]; · iexists _; iexact Hm4
    isplitl [Hm5]; · iexists _; iexact Hm5
    isplitl [Hm6]; · iexists _; iexact Hm6
    isplitl [Hm7]; · iexists _; iexact Hm7
    isplitl [Hm8]; · iexists _; iexact Hm8
    isplitl [Hm9]; · iexists _; iexact Hm9
    isplitl [Hm10]; · iexists _; iexact Hm10
    isplitl [Hm11]; · iexists _; iexact Hm11
    isplitl [Hbb]; · iexists _; iexact Hbb
    isplitl [Hcid]; · iexists _; iexact Hcid
    isplitl [Htx]; · iexists _; iexact Htx
    isplitl [Hty]; · iexists _; iexact Hty
    isplitl [Htw]; · iexists _; iexact Htw
    isplitl [Hth]; · iexists _; iexact Hth
    iexists _; iexact Hacc
  isplitl [HBt]; · iexact HBt
  isplitl [Hq0]; · iexact Hq0
  isplitl [Hq1]; · iexact Hq1
  iexists _; isplitr; swap; · iexact HO
  ipureintro; intro p hp
  simp only [Finset.mem_insert] at hp
  rcases hp with hp | hp | hp | hp | hp | hp | hp | hp | hp | hp | hp | hp | hp | hp | hp
  all_goals first | exact .inl hp | exact .inr (hp ▸ rfl)

end Cert.Proof.K
end
-- ==== Proof.KBodyZ.lean ====
/-
  The task of a vector subcore whose last slot has no cell, run.
-/
module

public import proofs.«01_k».proof.Proof.KBody

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ
variable [FloatOps F] (d : Dev nD) (L : grid0.Coords)

set_option pp.deepTerms false in
set_option pp.deepTerms.threshold 6 in
set_option maxRecDepth 20000 in
set_option maxHeartbeats 4000000 in
/-- A task whose sixth slot has no cell. -/
theorem body_fake (h : ¬ k0_cond6 L = 1#1) (q qb : PosShare TreeShare) (pf : S13x13x25x2x2x128.Idx → F .f32) (bf : S8x2x4x128.Idx → F .f32)
    (o : S32x16.Idx → F .f32) (O : CellTallies nD τ sig (HIx 1)) (W : Waits sig (HIx 1)) :
    iprop(Transfers.MayWaits (tV d L) (default : HIx 1) O ∗ (mP.view.loc (tV d L) ↦{q} pf) ∗ (mB.view.loc (tV d L) ↦{qb} bf)
        ∗ ((vO L).view.loc (tV d L) ↦[(vO L).view.set]{fullShare} o)
        ∗ bufsEx d L ∗ semVal (tV d L, SemLoc.dma cc0_scratch19.sem) 0 ∗ semVal (tV d L, SemLoc.dma cc0_scoped0.sem) 0 ∗ semVal (tV d L, SemLoc.dma cc0_scoped1.sem) 0 ∗ owes (tV d L) O W)
    ⊢ (wp frame (wpE (defs₀ (F := F)) 𝒱₀ (tV d L) none) Set.univ (cc0__yolo_sc L mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1) fun _ => bodyPost d L pf bf O W : sProp 𝕄) := by
  iintro ⟨Hmw, HP, HB, HOut, ⟨⟨%g0, Hm0⟩, ⟨%g1, Hm1⟩, ⟨%g2, Hm2⟩, ⟨%g3, Hm3⟩, ⟨%g4, Hm4⟩, ⟨%g5, Hm5⟩, ⟨%g6, Hm6⟩, ⟨%g7, Hm7⟩, ⟨%g8, Hm8⟩, ⟨%g9, Hm9⟩, ⟨%g10, Hm10⟩, ⟨%g11, Hm11⟩, ⟨%xbb, Hbb⟩, ⟨%xcid, Hcid⟩, ⟨%xtx, Htx⟩, ⟨%xty, Hty⟩, ⟨%xtw, Htw⟩, ⟨%xth, Hth⟩, ⟨%xacc, Hacc⟩⟩, Hsem, Hq0, Hq1, HO⟩
  ihave HP := (lend10 d L q pf) $$ HP
  icases HP with ⟨HS0, HS1, HS2, HS3, HS4, HS5, HS6, HS7, HS8, HS9⟩
  ihave Hm0 := (Entails.of_eq (ownSet d L (S := S25x2x128) cc0_scratch0 g0 fullShare)) $$ Hm0
  ihave Hm1 := (Entails.of_eq (ownSet d L (S := S2x128) cc0_scratch1 g1 fullShare)) $$ Hm1
  ihave Hm2 := (Entails.of_eq (ownSet d L (S := S25x2x128) cc0_scratch2 g2 fullShare)) $$ Hm2
  ihave Hm3 := (Entails.of_eq (ownSet d L (S := S2x128) cc0_scratch3 g3 fullShare)) $$ Hm3
  ihave Hm4 := (Entails.of_eq (ownSet d L (S := S25x2x128) cc0_scratch4 g4 fullShare)) $$ Hm4
  ihave Hm5 := (Entails.of_eq (ownSet d L (S := S2x128) cc0_scratch5 g5 fullShare)) $$ Hm5
  ihave Hm6 := (Entails.of_eq (ownSet d L (S := S25x2x128) cc0_scratch6 g6 fullShare)) $$ Hm6
  ihave Hm7 := (Entails.of_eq (ownSet d L (S := S2x128) cc0_scratch7 g7 fullShare)) $$ Hm7
  ihave Hm8 := (Entails.of_eq (ownSet d L (S := S25x2x128) cc0_scratch8 g8 fullShare)) $$ Hm8
  ihave Hm9 := (Entails.of_eq (ownSet d L (S := S2x128) cc0_scratch9 g9 fullShare)) $$ Hm9
  imod (Transfers.mixedBatch_alloc' (Lvl := ℕ) (countersEmb (U := UU)) (tV d L) (default : HIx 1) amts10 (deliv10 d L q pf g0 g1 g2 g3 g4 g5 g6 g7 g8 g9) (sm := .dma cc0_scratch19.sem) (E := Set.univ)) $$ Hsem with HBt
  have hc1 := cond1_all L
  have hc2 := cond2_all L
  have hc3 := cond3_all L
  have hc4 := cond4_all L
  have hc5 := cond5_all L
  have hc8 := cond8_all L
  have hc9 := cond9_all L
  have hc10 := cond10_all L
  have hc11 := cond11_all L
  have hc12 := cond12_all L
  have hc13 : ¬ k0_cond13 L = 1#1 := fun h' => h ((cond13_iff L).mp h')
  have hcut := zfill d L (k0_pay595 (F := F)) g10
  unfold deliv10
  rw [cc0__yolo_sc_eq_skeleton]
  unfold cc0__yolo_sc_skel
  sl_exec
  have hz : body_fake.sl.v32 L = 1#1 := zbit_on L h
  sl_exec
  ihave Hbb := (Entails.of_eq (show (mbb.view.loc (tV d L) ↦{fullShare} View.write (Elt F) mbb.view xbb (body_fake.sl.dma32 bf) Finset.univ : sProp 𝕄)
    = (mbb.view.loc (tV d L) ↦{fullShare} bf) from congrArg _ (View.write_whole_univ _ _ _))) $$ Hbb
  sl_for (fun (n : ℕ) (_ : BitVec 32) => heldG d L bf n) $$ [Hbb Hcid Htx Hty Htw Hth]
  case region => exact fun k a => trip1 d L _ _ _ k a bf
  · iexists xcid, xtx, xty, xtw, xth
    isplitr
    · ipureintro; exact ⟨Done.zero _ _, Done.zero _ _, Done.zero _ _, Done.zero _ _, Done.zero _ _⟩
    · iframe Hbb Hcid Htx Hty Htw Hth
  iintro %_ HI
  icases HI with ⟨%f18, %f19, %f20, %f21, %f22, %hd, Hbb, Hcid, Htx, Hty, Htw, Hth⟩
  obtain ⟨h18, h19, h20, h21, h22⟩ := hd
  have h18 : f18 = Gcid bf := Done.all h18
  have h19 : f19 = Gtx bf := Done.all h19
  have h20 : f20 = Gty bf := Done.all h20
  have h21 : f21 = Gtw bf := Done.all h21
  have h22 : f22 = Gth bf := Done.all h22
  subst h18 h19 h20 h21 h22
  sl_exec
  ihave Hm0 := (show (mc0.view.loc (tV d L) ↦[mc0.view.set]{fullShare} mc0.view.writes (Elt F) mc0.view.junk [⟨Rect.whole _, ReadAs.same.apply ((vc0 L).view.read (Elt F) pf)⟩] : sProp 𝕄)
      ⊢ (mc0.view.loc (tV d L) ↦{fullShare} xcT pf (wid L) 0) from landed d L (b := cc0_scratch0) _ _ (xcT pf (wid L) 0) (read_c L 0 (.inr (by decide)) _ pf)) $$ HBt_dst0
  ihave Hm1 := (show (mf0.view.loc (tV d L) ↦[mf0.view.set]{fullShare} mf0.view.writes (Elt F) mf0.view.junk [⟨Rect.whole _, ReadAs.same.apply ((vf0 L).view.read (Elt F) pf)⟩] : sProp 𝕄)
      ⊢ (mf0.view.loc (tV d L) ↦{fullShare} xfT pf (wid L) 0) from landed d L (b := cc0_scratch1) _ _ (xfT pf (wid L) 0) (read_f L 0 (.inr (by decide)) _ pf)) $$ HBt_dst1
  ihave Hm2 := (show (mc1.view.loc (tV d L) ↦[mc1.view.set]{fullShare} mc1.view.writes (Elt F) mc1.view.junk [⟨Rect.whole _, ReadAs.same.apply ((vc1 L).view.read (Elt F) pf)⟩] : sProp 𝕄)
      ⊢ (mc1.view.loc (tV d L) ↦{fullShare} xcT pf (wid L) 1) from landed d L (b := cc0_scratch2) _ _ (xcT pf (wid L) 1) (read_c L 1 (.inr (by decide)) _ pf)) $$ HBt_dst2
  ihave Hm3 := (show (mf1.view.loc (tV d L) ↦[mf1.view.set]{fullShare} mf1.view.writes (Elt F) mf1.view.junk [⟨Rect.whole _, ReadAs.same.apply ((vf1 L).view.read (Elt F) pf)⟩] : sProp 𝕄)
      ⊢ (mf1.view.loc (tV d L) ↦{fullShare} xfT pf (wid L) 1) from landed d L (b := cc0_scratch3) _ _ (xfT pf (wid L) 1) (read_f L 1 (.inr (by decide)) _ pf)) $$ HBt_dst3
  ihave Hm4 := (show (mc2.view.loc (tV d L) ↦[mc2.view.set]{fullShare} mc2.view.writes (Elt F) mc2.view.junk [⟨Rect.whole _, ReadAs.same.apply ((vc2 L).view.read (Elt F) pf)⟩] : sProp 𝕄)
      ⊢ (mc2.view.loc (tV d L) ↦{fullShare} xcT pf (wid L) 2) from landed d L (b := cc0_scratch4) _ _ (xcT pf (wid L) 2) (read_c L 2 (.inr (by decide)) _ pf)) $$ HBt_dst4
  ihave Hm5 := (show (mf2.view.loc (tV d L) ↦[mf2.view.set]{fullShare} mf2.view.writes (Elt F) mf2.view.junk [⟨Rect.whole _, ReadAs.same.apply ((vf2 L).view.read (Elt F) pf)⟩] : sProp 𝕄)
      ⊢ (mf2.view.loc (tV d L) ↦{fullShare} xfT pf (wid L) 2) from landed d L (b := cc0_scratch5) _ _ (xfT pf (wid L) 2) (read_f L 2 (.inr (by decide)) _ pf)) $$ HBt_dst5
  ihave Hm6 := (show (mc3.view.loc (tV d L) ↦[mc3.view.set]{fullShare} mc3.view.writes (Elt F) mc3.view.junk [⟨Rect.whole _, ReadAs.same.apply ((vc3 L).view.read (Elt F) pf)⟩] : sProp 𝕄)
      ⊢ (mc3.view.loc (tV d L) ↦{fullShare} xcT pf (wid L) 3) from landed d L (b := cc0_scratch6) _ _ (xcT pf (wid L) 3) (read_c L 3 (.inr (by decide)) _ pf)) $$ HBt_dst6
  ihave Hm7 := (show (mf3.view.loc (tV d L) ↦[mf3.view.set]{fullShare} mf3.view.writes (Elt F) mf3.view.junk [⟨Rect.whole _, ReadAs.same.apply ((vf3 L).view.read (Elt F) pf)⟩] : sProp 𝕄)
      ⊢ (mf3.view.loc (tV d L) ↦{fullShare} xfT pf (wid L) 3) from landed d L (b := cc0_scratch7) _ _ (xfT pf (wid L) 3) (read_f L 3 (.inr (by decide)) _ pf)) $$ HBt_dst7
  ihave Hm8 := (show (mc4.view.loc (tV d L) ↦[mc4.view.set]{fullShare} mc4.view.writes (Elt F) mc4.view.junk [⟨Rect.whole _, ReadAs.same.apply ((vc4 L).view.read (Elt F) pf)⟩] : sProp 𝕄)
      ⊢ (mc4.view.loc (tV d L) ↦{fullShare} xcT pf (wid L) 4) from landed d L (b := cc0_scratch8) _ _ (xcT pf (wid L) 4) (read_c L 4 (.inr (by decide)) _ pf)) $$ HBt_dst8
  ihave Hm9 := (show (mf4.view.loc (tV d L) ↦[mf4.view.set]{fullShare} mf4.view.writes (Elt F) mf4.view.junk [⟨Rect.whole _, ReadAs.same.apply ((vf4 L).view.read (Elt F) pf)⟩] : sProp 𝕄)
      ⊢ (mf4.view.loc (tV d L) ↦{fullShare} xfT pf (wid L) 4) from landed d L (b := cc0_scratch9) _ _ (xfT pf (wid L) 4) (read_f L 4 (.inr (by decide)) _ pf)) $$ HBt_dst9
  ihave Hm10 := (show (mc5.view.loc (tV d L) ↦{fullShare} fillC (k0_pay595 (F := F)) : sProp 𝕄)
      ⊢ (mc5.view.loc (tV d L) ↦{fullShare} xcT pf (wid L) 5) from Entails.of_eq (congrArg _ (xcT_zero L pf h).symm)) $$ Hk0_part68_0
  ihave Hm11 := (show (mf5.view.loc (tV d L) ↦{fullShare} mf5.view.writes (Elt F) mf5.view.junk body_fake.sl.Hm11_16 : sProp 𝕄)
      ⊢ (mf5.view.loc (tV d L) ↦{fullShare} xfT pf (wid L) 5) from Entails.of_eq (congrArg _ ((fillF_of k0_pay595 mf5.view _).trans (xfT_zero L pf h).symm))) $$ Hm11
  sl_for (fun (n : ℕ) (a : FVec F S16 .f32) => iprop(⌜a = accL (Scalar.addi (Scalar.muli (BitVec.ofNat 32 (L 1).val) 2#32) (BitVec.ofNat 32 (L 0).val)) (iota .scVector S16 32 [0] iota_S16_d0_w32_scVector) k0_pay595 (Gcid bf) ![Gtx bf, Gty bf, Gtw bf, Gth bf] (xcT pf (wid L)) (xfT pf (wid L)) n⌝ ∗ heldT d L (Gcid bf) ![Gtx bf, Gty bf, Gtw bf, Gth bf] (xcT pf (wid L)) (xfT pf (wid L)))) $$ [Hcid Htx Hty Htw Hth Hm0 Hm1 Hm2 Hm3 Hm4 Hm5 Hm6 Hm7 Hm8 Hm9 Hm10 Hm11]
  case region =>
    intro k a
    iintro ⟨%ha, HI⟩
    subst ha
    iapply (trip2 d L (Scalar.addi (Scalar.muli (BitVec.ofNat 32 (L 1).val) 2#32) (BitVec.ofNat 32 (L 0).val)) (iota .scVector S16 32 [0] iota_S16_d0_w32_scVector) k0_pay595 k _ (Gcid bf) ![Gtx bf, Gty bf, Gtw bf, Gth bf] (xcT pf (wid L)) (xfT pf (wid L))); iexact HI
  · isplitr
    · ipureintro; rfl
    · iframe Hcid Htx Hty Htw Hth Hm0 Hm1 Hm2 Hm3 Hm4 Hm5 Hm6 Hm7 Hm8 Hm9 Hm10 Hm11
  iintro %acc HI
  icases HI with ⟨%ha, Hcid, Htx, Hty, Htw, Hth, Hm0, Hm1, Hm2, Hm3, Hm4, Hm5, Hm6, Hm7, Hm8, Hm9, Hm10, Hm11⟩
  sl_exec
  sl_step
  isplitl [HOut]
  · iexists _; isplitr; swap; · iexact HOut
    ipureintro
    refine read_row L o _ _ _ ?_
    rw [show body_fake.sl.v64 = (k0_pay595 : FVec F S16 .f32) from (View.readCov_full _ _ _ _ _).trans (funext fun i => congrArg k0_pay595 (Shape.reshapeEquiv_self _ i)), ha]
    rfl
  isplitl [Hbb Hcid Htx Hty Htw Hth Hacc Hm0 Hm1 Hm2 Hm3 Hm4 Hm5 Hm6 Hm7 Hm8 Hm9 Hm10 Hm11]
  · isplitl [Hm0]; · iexists _; iexact Hm0
    isplitl [Hm1]; · iexists _; iexact Hm1
    isplitl [Hm2]; · iexists _; iexact Hm2
    isplitl [Hm3]; · iexists _; iexact Hm3
    isplitl [Hm4]; · iexists _; iexact Hm4
    isplitl [Hm5]; · iexists _; iexact Hm5
    isplitl [Hm6]; · iexists _; iexact Hm6
    isplitl [Hm7]; · iexists _; iexact Hm7
    isplitl [Hm8]; · iexists _; iexact Hm8
    isplitl [Hm9]; · iexists _; iexact Hm9
    isplitl [Hm10]; · iexists _; iexact Hm10
    isplitl [Hm11]; · iexists _; iexact Hm11
    isplitl [Hbb]; · iexists _; iexact Hbb
    isplitl [Hcid]; · iexists _; iexact Hcid
    isplitl [Htx]; · iexists _; iexact Htx
    isplitl [Hty]; · iexists _; iexact Hty
    isplitl [Htw]; · iexists _; iexact Htw
    isplitl [Hth]; · iexists _; iexact Hth
    iexists _; iexact Hacc
  isplitl [HBt]; · iexact HBt
  isplitl [Hq0]; · iexact Hq0
  isplitl [Hq1]; · iexact Hq1
  iexists _; isplitr; swap; · iexact HO
  ipureintro; intro p hp
  simp only [Finset.mem_insert] at hp
  rcases hp with hp | hp | hp | hp | hp | hp | hp | hp | hp | hp | hp | hp | hp
  all_goals first | exact .inl hp | exact .inr (hp ▸ rfl)

end Cert.Proof.K
end
-- ==== Proof.KOwn.lean ====
/-
  A subcore's own storage, and the rows of the result.
-/
module

public import proofs.«01_k».proof.Proof.KBodyZ

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Own

variable (d : Dev nD) (L : grid0.Coords)

/-- The buffers a task names, in the order of its arguments. -/
def scr : List (Ref sig .scVector) := [cc0_scratch0, cc0_scratch1, cc0_scratch2, cc0_scratch3, cc0_scratch4, cc0_scratch5, cc0_scratch6, cc0_scratch7, cc0_scratch8, cc0_scratch9, cc0_scratch10, cc0_scratch11, cc0_scratch12, cc0_scratch13, cc0_scratch14, cc0_scratch15, cc0_scratch16, cc0_scratch17, cc0_scratch18]
/-- They as the device's buffers. -/
def scrD : List (DevRef τ sig) := scr.map (Proc.scVector (cV L) (jV L)).devRef

theorem scr_owned : ∀ b ∈ scrD L, b ∈ ownRefs (τ := τ) (sig := sig) (.scVector (cV L) (jV L)) := by
  intro b hb
  obtain ⟨r, hr, rfl⟩ := List.mem_map.mp hb
  refine SparseCore.Cfg.mem_ownRefs_of_owner ?_
  simp only [scr, List.mem_cons, List.not_mem_nil, or_false] at hr
  rcases hr with rfl | rfl | rfl | rfl | rfl | rfl | rfl | rfl | rfl | rfl | rfl | rfl | rfl | rfl | rfl | rfl | rfl | rfl | rfl <;> rfl

theorem scr_nodup : (scr : List (Ref sig .scVector)).Nodup := by decide
theorem scrD_nodup : (scrD L).Nodup :=
  List.Nodup.map (Proc.devRef_injective _) scr_nodup

/-- A subcore's own buffers: the ones its task names, and the rest. -/
theorem ownBufs_V : (ownBufs (tV d L) : sProp 𝕄)
    = iprop(bufsEx d L ∗ bigSep (ownRefs (τ := τ) (.scVector (cV L) (jV L)) \ (scrD L).toFinset) fun b => iprop(∃ f, ((d, b) : Loc nD τ sig) ↦{fullShare} f)) := by
  unfold SparseCore.Cfg.ownBufs
  refine (SparseCore.bigSep_sdiff_split' (t := (scrD L).toFinset) fun b hb => scr_owned L b (List.mem_toFinset.mp hb)).trans ?_
  rw [bigSep_eq_bigSepL _ (scrD_nodup L)]
  rfl

/-- The semaphores a task names. -/
def semT : List (SemLoc sig) := [.dma cc0_scratch19.sem, .dma cc0_scoped0.sem, .dma cc0_scoped1.sem]
def semD : List (GSem nD τ sig) := semT.map fun s => (tV d L, s)

theorem semD_owned : ∀ g ∈ semD d L, g ∈ ownCells (tV d L) := by
  intro g hg
  obtain ⟨s, hs, rfl⟩ := List.mem_map.mp hg
  refine mem_ownCells.mpr ⟨rfl, ?_⟩
  simp only [semT, List.mem_cons, List.not_mem_nil, or_false] at hs
  rcases hs with rfl | rfl | rfl
  · show (SemLoc.dma cc0_scratch19.sem : SemLoc sig).isScoped .scVector = true; decide
  · show (SemLoc.dma cc0_scoped0.sem : SemLoc sig).isScoped .scVector = true; decide
  · show (SemLoc.dma cc0_scoped1.sem : SemLoc sig).isScoped .scVector = true; decide

theorem semD_nodup : (semD d L).Nodup :=
  List.Nodup.map (fun _ _ e => (Prod.mk.inj e).2) (by decide)

/-- A subcore's own semaphores: the ones its task names, and the rest. -/
theorem ownSems0_V : (ownSems0 (tV d L) : sProp 𝕄)
    = iprop((semVal (tV d L, SemLoc.dma cc0_scratch19.sem) 0 ∗ semVal (tV d L, SemLoc.dma cc0_scoped0.sem) 0 ∗ semVal (tV d L, SemLoc.dma cc0_scoped1.sem) 0)
        ∗ bigSep (ownCells (tV d L) \ (semD d L).toFinset) fun g => semVal g 0) := by
  unfold SparseCore.Cfg.ownSems0
  refine (SparseCore.bigSep_sdiff_split' (t := (semD d L).toFinset) fun b hb => semD_owned d L b (List.mem_toFinset.mp hb)).trans ?_
  rw [bigSep_eq_bigSepL _ (semD_nodup d L)]
  rfl

/-! ## The rows of the result -/

/-- Where a row of the result lies. -/
theorem emb_o (y : S16.Idx) : (vO L).view.emb y = (fun | 0 => ⟨wid L, wid_lt L⟩ | 1 => y 0 : S32x16.Idx) := by
  show (Rect.unit (s := S32x16) (k0_off64 L) S1x16.size (k0_off64_inb L)).emb (Shape.reshapeEquiv squeezes_S1x16_S16.numel_eq y) = _
  rw [show Shape.reshapeEquiv squeezes_S1x16_S16.numel_eq y = (fun | 0 => ⟨0, by decide⟩ | 1 => y 0 : S1x16.Idx) from rs_2 y]
  have h0 : k0_off64 L 0 = wid L := by revert L; decide +kernel
  have h1 : k0_off64 L 1 = 0 := by revert L; decide +kernel
  funext a
  match a with
  | 0 => exact Fin.ext (by simp [Rect.unit, Rect.emb, h0])
  | 1 => exact Fin.ext (by simp [Rect.unit, Rect.emb, h1])

theorem mem_o (x : S32x16.Idx) : x ∈ (vO L).view.set ↔ (x 0).val = wid L := by
  constructor
  · intro h
    obtain ⟨y, -, rfl⟩ := Finset.mem_map.mp h
    rw [show (vO L).view.emb y = _ from emb_o L y]
  · intro h
    refine Finset.mem_map.mpr ⟨(fun | 0 => x 1 : S16.Idx), Finset.mem_univ _, ?_⟩
    refine (emb_o L _).trans (funext fun a => ?_)
    match a with
    | 0 => exact Fin.ext h.symm
    | 1 => rfl

end Own

end Cert.Proof.K
end
-- ==== Proof.KHost.lean ====
/-
  @main's arrays, its operations and what they hold.
-/
module

public import proofs.«01_k».proof.Proof.KOwn

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Host

variable (m : (ℓ : Loc nD τ sig) → Buf (Elt F) ℓ) (ρ : Dev nD → PrngReg) [FloatOps F]

/-! ## The arrays and the operations of @main -/

abbrev b_a0 : DevRef τ sig := Proc.devRef .tc (main_arg0 : Ref sig .tc)
abbrev b_a1 : DevRef τ sig := Proc.devRef .tc (main_arg1 : Ref sig .tc)
abbrev b_a2 : DevRef τ sig := Proc.devRef .tc (main_arg2 : Ref sig .tc)
abbrev b_v0 : DevRef τ sig := Proc.devRef .tc (main_v0 : Ref sig .tc)
abbrev b_v1 : DevRef τ sig := Proc.devRef .tc (main_v1 : Ref sig .tc)
abbrev b_v2 : DevRef τ sig := Proc.devRef .tc (main_v2 : Ref sig .tc)
abbrev b_v3 : DevRef τ sig := Proc.devRef .tc (main_v3 : Ref sig .tc)
abbrev b_v4 : DevRef τ sig := Proc.devRef .tc (main_v4 : Ref sig .tc)
abbrev b_cs : DevRef τ sig := Proc.devRef .tc (main_cst : Ref sig .tc)
abbrev b_v5 : DevRef τ sig := Proc.devRef .tc (main_v5 : Ref sig .tc)
abbrev b_ct : DevRef τ sig := Proc.devRef .tc (main_cst_0 : Ref sig .tc)
abbrev b_v6 : DevRef τ sig := Proc.devRef .tc (main_v6 : Ref sig .tc)
abbrev opR0 : HloOp τ sig (Elt F) := (StableHlo.reshape main_arg0 main_v0 (rfl : (.f32 : EltTy) = .f32) shapeCasts_S256x13x13x2x25_S2x128x13x13x2x25)
abbrev opT1 : HloOp τ sig (Elt F) := (StableHlo.unary main_v0 main_v1 ((transpose S13x13x25x2x2x128 [2, 3, 5, 0, 4, 1] · transposes_S2x128x13x13x2x25_S13x13x25x2x2x128_2_3_5_0_4_1) : (⟨S2x128x13x13x2x25, .f32⟩ : BufTy).Contents (Elt F) → (⟨S13x13x25x2x2x128, .f32⟩ : BufTy).Contents (Elt F)))
abbrev opR2 : HloOp τ sig (Elt F) := (StableHlo.reshape main_arg1 main_v2 (rfl : (.f32 : EltTy) = .f32) shapeCasts_S256x8x4_S2x128x8x4)
abbrev opT3 : HloOp τ sig (Elt F) := (StableHlo.unary main_v2 main_v3 ((transpose S8x2x4x128 [2, 0, 3, 1] · transposes_S2x128x8x4_S8x2x4x128_2_0_3_1) : (⟨S2x128x8x4, .f32⟩ : BufTy).Contents (Elt F) → (⟨S8x2x4x128, .f32⟩ : BufTy).Contents (Elt F)))
abbrev opC : HloOp τ sig (Elt F) := (StableHlo.nullary main_cst (constant S_ .f32 0x00000000#32))
abbrev opS : HloOp τ sig (Elt F) := (StableHlo.binary main_v4 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F)))
abbrev opD : HloOp τ sig (Elt F) := (StableHlo.nullary main_cst_0 (constant S_ .f32 0x43800000#32))
abbrev opQ : HloOp τ sig (Elt F) := (StableHlo.binary main_v5 main_cst_0 main_v6 (Host.divf : (⟨S_, .f32⟩ : BufTy).Contents (Elt F) → (⟨S_, .f32⟩ : BufTy).Contents (Elt F) → (⟨S_, .f32⟩ : BufTy).Contents (Elt F)))

/-- All of @main's arrays, and the ones it uses after the call. -/
def lAll : List (DevRef τ sig) := [b_a0, b_a1, b_a2, b_v0, b_v1, b_v2, b_v3, b_v4, b_cs, b_v5, b_ct, b_v6]
def lEnd : List (DevRef τ sig) := [b_v4, b_cs, b_v5, b_ct, b_v6]
abbrev sAll : Finset (DevRef τ sig) := {b_a0, b_a1, b_a2, b_v0, b_v1, b_v2, b_v3, b_v4, b_cs, b_v5, b_ct, b_v6}
abbrev sEnd : Finset (DevRef τ sig) := {b_v4, b_cs, b_v5, b_ct, b_v6}

/-- The contents at the launch and before the call. -/
def W0 (d : Dev nD) : Valuation τ sig (Elt F) := fun b => m (d, b)
def W4 (d : Dev nD) : Valuation τ sig (Elt F) := opT3.result (opR2.result (opT1.result (opR0.result (W0 m d))))
/-- The predictions and the boxes as the call finds them. -/
def pV (d : Dev nD) : S13x13x25x2x2x128.Idx → F .f32 := W4 m d b_v1
def bV (d : Dev nD) : S8x2x4x128.Idx → F .f32 := W4 m d b_v3

def coordsV (c : Fin (grid0.bound 0)) (s : Fin (grid0.bound 1)) : grid0.Coords :=
  fun | 0 => c | 1 => s | ⟨_ + 2, h⟩ => absurd h (Nat.not_lt.2 (Nat.le_add_left _ _))

/-- The coordinates of the subcore that writes row `r`. -/
def crow (r : Fin 32) : grid0.Coords := coordsV ⟨r.val % 2, Nat.mod_lt _ (by decide)⟩ ⟨r.val / 2, by have := r.isLt; show r.val / 2 < 16; omega⟩

/-- What the call leaves in its result. -/
def OUT (pf : S13x13x25x2x2x128.Idx → F .f32) (bf : S8x2x4x128.Idx → F .f32) : S32x16.Idx → F .f32 :=
  fun x => rowV (crow (x 0)) pf bf (ix1 (x 1))

/-- The contents after the call, and at the end. -/
def W5 (d : Dev nD) : Valuation τ sig (Elt F) := Function.update (W4 m d) b_v4 (OUT (pV m d) (bV m d))
def W9 (d : Dev nD) : Valuation τ sig (Elt F) := opQ.result (opD.result (opS.result (opC.result (W5 m d))))

omit [FloatOps F] in
theorem held_list (d : Dev nD) (S : Finset (DevRef τ sig)) (l : List (DevRef τ sig)) (h : S = l.toFinset) (hl : l.Nodup) (V : Valuation τ sig (Elt F)) :
    (StableHlo.held (T d) S V : sProp 𝕄) = bigSepL l fun b => ((d, b) : Loc nD τ sig) ↦{fullShare} V b := by
  unfold StableHlo.held
  exact bigSep_eq_bigSepL_of_eq l h hl _

omit [FloatOps F] in
theorem unscoped_held (d : Dev nD) : (unscopedBufs d (fun b => m ((SparseCore.T d).loc b)) : sProp 𝕄) = StableHlo.held (T d) sAll (W0 m d) := by
  unfold unscopedBufs StableHlo.held
  rw [show (Finset.univ.filter fun b : Ref sig .tc => ¬ b.isScoped) = {main_arg0, main_arg1, main_arg2, main_v0, main_v1, main_v2, main_v3, main_v4, main_cst, main_v5, main_cst_0, main_v6} by decide]
  iterate 11 rw [SparseCore.bigSep_insert' (by decide), SparseCore.bigSep_insert' (I := DevRef τ sig) (by decide)]
  rw [bigSep_singleton, bigSep_singleton]
  rfl

omit [FloatOps F] in
theorem held_all (d : Dev nD) (V : Valuation τ sig (Elt F)) :
    (StableHlo.held (T d) sAll V : sProp 𝕄) = bigSepL lAll fun b => ((d, b) : Loc nD τ sig) ↦{fullShare} V b :=
  held_list d _ _ (by decide) (by decide) V

omit [FloatOps F] in
theorem held_end (d : Dev nD) (V : Valuation τ sig (Elt F)) :
    (StableHlo.held (T d) sEnd V : sProp 𝕄) = iprop((((d, b_v4) : Loc nD τ sig) ↦{fullShare} V b_v4) ∗ (((d, b_cs) : Loc nD τ sig) ↦{fullShare} V b_cs) ∗ (((d, b_v5) : Loc nD τ sig) ↦{fullShare} V b_v5) ∗ (((d, b_ct) : Loc nD τ sig) ↦{fullShare} V b_ct) ∗ (((d, b_v6) : Loc nD τ sig) ↦{fullShare} V b_v6)) :=
  (held_list d _ lEnd (by decide) (by decide) V).trans rfl

theorem W4_arg (d : Dev nD) (b : DevRef τ sig) (h : b ≠ b_v0 ∧ b ≠ b_v1 ∧ b ≠ b_v2 ∧ b ≠ b_v3) : W4 m d b = m (d, b) := by
  unfold W4
  rw [(opT3 (F := F)).result_of_not_mem _ (show b ∉ ({b_v3} : Finset (DevRef τ sig)) from Finset.notMem_singleton.mpr h.2.2.2),
    (opR2 (F := F)).result_of_not_mem _ (show b ∉ ({b_v2} : Finset (DevRef τ sig)) from Finset.notMem_singleton.mpr h.2.2.1),
    (opT1 (F := F)).result_of_not_mem _ (show b ∉ ({b_v1} : Finset (DevRef τ sig)) from Finset.notMem_singleton.mpr h.2.1),
    (opR0 (F := F)).result_of_not_mem _ (show b ∉ ({b_v0} : Finset (DevRef τ sig)) from Finset.notMem_singleton.mpr h.1)]
  rfl

theorem W5_out (d : Dev nD) : W5 m d b_v4 = OUT (pV m d) (bV m d) := Function.update_self _ _ _
theorem W5_of (d : Dev nD) (b : DevRef τ sig) (h : b ≠ b_v4) : W5 m d b = W4 m d b := Function.update_of_ne h _ _

end Host

end Cert.Proof.K
end
-- ==== Proof.KLaunch.lean ====
/-
  The launch: what the subcores are handed, how the operands split among them, and the program's run.
-/
module

public import proofs.«01_k».proof.Proof.KHost

@[expose] public section

noncomputable section

namespace Cert.Proof.K

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Launch

variable (m : (ℓ : Loc nD τ sig) → Buf (Elt F) ℓ) (ρ : Dev nD → PrngReg) [FloatOps F]

/-! ## What the handshakes carry -/

abbrev pLoc (d : Dev nD) : Loc nD τ sig := (d, b_v1)
abbrev bLoc (d : Dev nD) : Loc nD τ sig := (d, b_v3)
abbrev oLoc (d : Dev nD) : Loc nD τ sig := (d, b_v4)

/-- A SparseCore's share of an operand, and a task's. -/
abbrev qC (c : Fin 2) : PosShare TreeShare := Transfers.dealOf fullShare Finset.univ c
abbrev qT (c : Fin 2) (i : Fin 16) : PosShare TreeShare := Transfers.dealOf (qC c) Finset.univ i
/-- The row of the result that a task writes. -/
abbrev oSet (c : Fin 2) (i : Fin 16) : Finset S32x16.Idx := (vO (coordsV c i)).view.set

abbrev pSh (d : Dev nD) (q : PosShare TreeShare) : sProp 𝕄 := pLoc d ↦{q} pV m d
abbrev bSh (d : Dev nD) (q : PosShare TreeShare) : sProp 𝕄 := bLoc d ↦{q} bV m d
abbrev oRow (d : Dev nD) (c : Fin 2) (i : Fin 16) (f : S32x16.Idx → F .f32) : sProp 𝕄 := oLoc d ↦[oSet c i]{fullShare} f

abbrev goP (d : Dev nD) (c : Fin 2) (i : Fin 16) : sProp 𝕄 :=
  iprop(pSh m d (qT c i) ∗ bSh m d (qT c i) ∗ oRow d c i (W4 m d b_v4))
abbrev tdP (d : Dev nD) (c : Fin 2) (i : Fin 16) : sProp 𝕄 := oRow d c i (OUT (pV m d) (bV m d))
abbrev stP (d : Dev nD) (c : Fin 2) : sProp 𝕄 :=
  iprop(pSh m d (qC c) ∗ bSh m d (qC c) ∗ bigSep Finset.univ fun i : Fin 16 => oRow d c i (W4 m d b_v4))
abbrev dnP (d : Dev nD) (c : Fin 2) : sProp 𝕄 := bigSep Finset.univ fun i : Fin 16 => tdP m d c i

/-- Each task takes shares of the two operands and its row of the result, and brings the row back. -/
def P : (K (F := F)).Pay (nD := nD) (Val := Elt F) (Name := ℕ) (U := UU) where
  st := fun q d c => match q with | 0 => stP m d (Fin.cast nCore_zero c)
  dn := fun q d c => match q with | 0 => dnP m d (Fin.cast nCore_zero c)
  go := fun q d c i => match q with | 0 => goP m d (Fin.cast nCore_zero c) (Fin.cast nSub_zero i)
  td := fun q d c i => match q with | 0 => tdP m d (Fin.cast nCore_zero c) (Fin.cast nSub_zero i)
  x := fun _ _ => iprop(emp)

instance P_storable : (P (F := F) m).IsStorable where
  st q d c := match q with | 0 => (inferInstance : BI.Storable (upEmb : UEmb _ 𝕄) (stP m d (Fin.cast nCore_zero c)))
  dn q d c := match q with | 0 => (inferInstance : BI.Storable (upEmb : UEmb _ 𝕄) (dnP m d (Fin.cast nCore_zero c)))
  go q d c i := match q with | 0 => (inferInstance : BI.Storable (upEmb : UEmb _ 𝕄) (goP m d (Fin.cast nCore_zero c) (Fin.cast nSub_zero i)))
  td q d c i := match q with | 0 => (inferInstance : BI.Storable (upEmb : UEmb _ 𝕄) (tdP m d (Fin.cast nCore_zero c) (Fin.cast nSub_zero i)))

/-! ## The task -/

omit [FloatOps F] in
theorem crow_wid : ∀ (c : Fin 2) (i : Fin 16), crow ⟨wid (coordsV c i), wid_lt _⟩ = coordsV c i := by
  intro c i
  have := c.isLt
  funext a
  match a with
  | 0 => exact Fin.ext (show (2 * i.val + c.val) % 2 = c.val by omega)
  | 1 => exact Fin.ext (show (2 * i.val + c.val) / 2 = i.val by omega)

/-- A row that reads as the task's sums is the row of `OUT`. -/
theorem row_out (d : Dev nD) (c : Fin 2) (i : Fin 16) (pf : S13x13x25x2x2x128.Idx → F .f32) (bf : S8x2x4x128.Idx → F .f32) (o' : S32x16.Idx → F .f32)
    (h : (vO (coordsV c i)).view.read (Elt F) o' = rowV (coordsV c i) pf bf) : (oRow d c i o' : sProp 𝕄) = oRow d c i (OUT pf bf) := by
  refine pointsTo_congr fun x hx => ?_
  obtain ⟨y, -, rfl⟩ := Finset.mem_map.mp hx
  have e1 : o' ((vO (coordsV c i)).view.emb y) = rowV (coordsV c i) pf bf y := congrFun h y
  rw [e1]
  have e2 := emb_o (coordsV c i) y
  rw [e2]
  have hc := crow_wid c i
  show _ = rowV (crow ⟨wid (coordsV c i), wid_lt _⟩) pf bf (ix1 (y 0))
  rw [hc]
  exact congrArg _ (funext fun a => match a with | 0 => rfl)

theorem tile_body (hF : (K (F := F)).Facts) (d : Dev nD) (c : Fin 2) (i : Fin 16) (O : CellTallies nD τ sig (HIx 1)) (W : Waits sig (HIx 1)) (hO : ∀ g, O g none = 0) :
    iprop(levAts (K (F := F)).L (K (F := F)).lev ∗ emp ∗ goP m d c i
        ∗ scopedBufs (tV d (coordsV c i)) ∗ scopedSems0 (tV d (coordsV c i)) ∗ owes (tV d (coordsV c i)) O W)
      ⊢ wp frame (wpE (defs₀ (F := F)) 𝒱₀ (tV d (coordsV c i)) none) Set.univ
          (cc0__yolo_sc (coordsV c i) mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1)
          fun _ => iprop(tdP m d c i ∗ scopedBufs (tV d (coordsV c i)) ∗ scopedSems0 (tV d (coordsV c i))
            ∗ ∃ W', ⌜∀ p ∈ W', p ∈ W ∨ p.2 = none⌝ ∗ owes (tV d (coordsV c i)) O W') := by
  rw [(K (F := F)).scopedBufs_V hF d (cV (coordsV c i)) (jV (coordsV c i)), SparseCore.Cfg.scopedSems0_V (Val := Elt F) d (cV (coordsV c i)) (jV (coordsV c i)),
    ownSems0_V, ownBufs_V]
  iintro ⟨#Hlv, -, ⟨Hp, Hb, Ho⟩, ⟨Hbufs, Hrb⟩, ⟨⟨Hs0, Hs1, Hs2⟩, Hrs⟩, HO⟩
  ihave Hmw := (show levAts (K (F := F)).L (K (F := F)).lev ⊢ Transfers.MayWaits (tV d (coordsV c i)) (default : HIx 1) O from
    (K (F := F)).mayWaits_none (thr := tV d (coordsV c i)) hO) $$ Hlv
  have body : iprop(Transfers.MayWaits (tV d (coordsV c i)) (default : HIx 1) O ∗ (mP.view.loc (tV d (coordsV c i)) ↦{qT c i} pV m d)
        ∗ (mB.view.loc (tV d (coordsV c i)) ↦{qT c i} bV m d)
        ∗ ((vO (coordsV c i)).view.loc (tV d (coordsV c i)) ↦[(vO (coordsV c i)).view.set]{fullShare} W4 m d b_v4)
        ∗ bufsEx d (coordsV c i) ∗ semVal (tV d (coordsV c i), SemLoc.dma cc0_scratch19.sem) 0 ∗ semVal (tV d (coordsV c i), SemLoc.dma cc0_scoped0.sem) 0
        ∗ semVal (tV d (coordsV c i), SemLoc.dma cc0_scoped1.sem) 0 ∗ owes (tV d (coordsV c i)) O W)
      ⊢ (wp frame (wpE (defs₀ (F := F)) 𝒱₀ (tV d (coordsV c i)) none) Set.univ
          (cc0__yolo_sc (coordsV c i) mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1)
          fun _ => bodyPost d (coordsV c i) (pV m d) (bV m d) O W : sProp 𝕄) := by
    by_cases h : k0_cond6 (coordsV c i) = 1#1
    · exact body_real d (coordsV c i) h _ _ _ _ _ O W
    · exact body_fake d (coordsV c i) h _ _ _ _ _ O W
  iapply (wp_wand_r frame (wpE (defs₀ (F := F)) 𝒱₀ (tV d (coordsV c i)) none) Set.univ)
  isplitl [Hmw Hp Hb Ho Hbufs Hs0 Hs1 Hs2 HO]
  · iapply body
    isplitl [Hmw]; · iexact Hmw
    isplitl [Hp]; · iexact Hp
    isplitl [Hb]; · iexact Hb
    isplitl [Ho]; · iexact Ho
    isplitl [Hbufs]; · iexact Hbufs
    isplitl [Hs0]; · iexact Hs0
    isplitl [Hs1]; · iexact Hs1
    isplitl [Hs2]; · iexact Hs2
    iexact HO
  iintro %u ⟨⟨%o', %ho, Ho⟩, Hbufs, Hs0, Hs1, Hs2, HW⟩
  isplitl [Ho]
  · iapply (Entails.of_eq (row_out d c i _ _ o' ho)); iexact Ho
  isplitl [Hbufs Hrb]
  · isplitl [Hbufs]; · iexact Hbufs
    iexact Hrb
  isplitl [Hs0 Hs1 Hs2 Hrs]
  · isplitr [Hrs]
    · isplitl [Hs0]; · iexact Hs0
      isplitl [Hs1]; · iexact Hs1
      iexact Hs2
    · iexact Hrs
  iexact HW

theorem defs₀_vector (c : Fin τ.nSC) (s : Fin τ.nSub) :
    defs₀ (F := F) (.scVector c s) 0 ()
      = SparseCore.onTile hcore0 hsub0 (fun c s => cc0__yolo_sc (coordsV c s) mP (Memref.isWhole_whole _) mB (Memref.isWhole_whole _) mO (Memref.isWhole_whole _) mc0 (Memref.isWhole_whole _) mf0 (Memref.isWhole_whole _) mc1 (Memref.isWhole_whole _) mf1 (Memref.isWhole_whole _) mc2 (Memref.isWhole_whole _) mf2 (Memref.isWhole_whole _) mc3 (Memref.isWhole_whole _) mf3 (Memref.isWhole_whole _) mc4 (Memref.isWhole_whole _) mf4 (Memref.isWhole_whole _) mc5 (Memref.isWhole_whole _) mf5 (Memref.isWhole_whole _) mbb (Memref.isWhole_whole _) mcid (Memref.isWhole_whole _) mtx (Memref.isWhole_whole _) mty (Memref.isWhole_whole _) mtw (Memref.isWhole_whole _) mth (Memref.isWhole_whole _) macc (Memref.isWhole_whole _) cc0_scratch19 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m hF d (Fin.cast nCore_zero c) (Fin.cast nSub_zero i) O W hO).trans (wp_mono frame _ _ fun _ => obl_post)

/-! ## How the operands split -/

omit [FloatOps F] in
theorem bigSep_cast {n k : ℕ} (h : n = k) (Φ : Fin k → sProp 𝕄) : (bigSep Finset.univ fun i : Fin n => Φ (Fin.cast h i)) = bigSep Finset.univ Φ := by
  subst h; rfl

omit [FloatOps F] in
theorem pts_shares (ℓ : Loc nD τ sig) (q : PosShare TreeShare) (f : Buf (Elt F) ℓ) (n : ℕ) [NeZero n] :
    (ℓ ↦{q} f : sProp 𝕄) = bigSep Finset.univ fun i : Fin n => ℓ ↦{Transfers.dealOf q Finset.univ i} f :=
  Transfers.pointsTo_deal Finset.univ Finset.univ_nonempty q

omit [FloatOps F] in
theorem pts_rows (d : Dev nD) (f : S32x16.Idx → F .f32) :
    (oLoc d ↦{fullShare} f : sProp 𝕄) = bigSep Finset.univ fun c : Fin 2 => bigSep Finset.univ fun i : Fin 16 => oRow d c i f := by
  rw [← bigSep_univ_prod (fun p : Fin 2 × Fin 16 => (oRow d p.1 p.2 f : sProp 𝕄)),
    ← pointsTo_biUnion Finset.univ (ℓ := oLoc d) (fun p : Fin 2 × Fin 16 => oSet p.1 p.2) ?_]
  · refine congrArg (fun S => (oLoc d ↦[S]{fullShare} f : sProp 𝕄)) ?_
    ext x
    have h0 : (x 0).val < 32 := (x 0).isLt
    simp only [Finset.mem_univ, Finset.mem_biUnion, true_and, true_iff]
    refine ⟨(⟨(x 0).val % 2, Nat.mod_lt _ (by decide)⟩, ⟨(x 0).val / 2, by omega⟩), (mem_o _ x).mpr ?_⟩
    show (x 0).val = 2 * ((x 0).val / 2) + (x 0).val % 2
    omega
  · intro p _ p' _ hp
    refine Finset.disjoint_left.mpr fun x hx hx' => hp ?_
    have h1 : (x 0).val = 2 * p.2.val + p.1.val := (mem_o _ x).mp hx
    have h2 : (x 0).val = 2 * p'.2.val + p'.1.val := (mem_o _ x).mp hx'
    have := p.1.isLt; have := p'.1.isLt
    exact Prod.ext (Fin.ext (by omega)) (Fin.ext (by omega))

theorem vecSplit : (K (F := F)).VecSplit' (P m) 0 := by
  intro d c
  show stP m d (Fin.cast nCore_zero c) ⊢ |={Set.univ}=> iprop((bigSep Finset.univ fun i : Fin ((K (F := F)).nSub 0) => goP m d (Fin.cast nCore_zero c) (Fin.cast nSub_zero i))
      ∗ ((bigSep Finset.univ fun i : Fin ((K (F := F)).nSub 0) => tdP m d (Fin.cast nCore_zero c) (Fin.cast nSub_zero i)) -∗ dnP m d (Fin.cast nCore_zero c)))
  rw [bigSep_cast nSub_zero (fun i => goP m d (Fin.cast nCore_zero c) i), bigSep_cast nSub_zero (fun i => tdP m d (Fin.cast nCore_zero c) i), bigSep_sep', bigSep_sep']
  unfold stP pSh bSh
  rw [pts_shares (pLoc d) (qC _) (pV m d) 16, pts_shares (bLoc d) (qC _) (bV m d) 16]
  iintro H; imodintro
  isplitl [H]; · iexact H
  iintro H; iexact H

theorem st0_eq (d : Dev nD) : (bigSep Finset.univ fun c : Fin ((K (F := F)).nCore 0) => (P m).st 0 d c)
    = iprop((pLoc d ↦{fullShare} pV m d) ∗ (bLoc d ↦{fullShare} bV m d) ∗ oLoc d ↦{fullShare} W4 m d b_v4) := by
  rw [show (bigSep Finset.univ fun c : Fin ((K (F := F)).nCore 0) => (P m).st 0 d c) = bigSep Finset.univ fun c : Fin 2 => stP m d c from
    bigSep_cast nCore_zero (fun c => stP m d c), bigSep_sep', bigSep_sep', pts_rows d, pts_shares (pLoc d) fullShare (pV m d) 2, pts_shares (bLoc d) fullShare (bV m d) 2]

theorem dn0_eq (d : Dev nD) : (bigSep Finset.univ fun c : Fin ((K (F := F)).nCore 0) => (P m).dn 0 d c) = (oLoc d ↦{fullShare} OUT (pV m d) (bV m d) : sProp 𝕄) := by
  rw [show (bigSep Finset.univ fun c : Fin ((K (F := F)).nCore 0) => (P m).dn 0 d c) = bigSep Finset.univ fun c : Fin 2 => dnP m d c from
    bigSep_cast nCore_zero (fun c => dnP m d c), pts_rows d]

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main -/

abbrev FIN (d : Dev nD) : sProp 𝕄 :=
  iprop((((d, b_a0) : Loc nD τ sig) ↦{fullShare} m (d, b_a0)) ∗ (((d, b_a1) : Loc nD τ sig) ↦{fullShare} m (d, b_a1))
    ∗ (((d, b_a2) : Loc nD τ sig) ↦{fullShare} m (d, b_a2)) ∗ (((d, b_v6) : Loc nD τ sig) ↦{fullShare} W9 m d b_v6))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (StableHlo.wp_hlo_within 𝒱 (SparseCore.T d) none Set.univ (op := opR0) (S := sAll) (show ({b_a0, b_v0} : Finset (DevRef τ sig)) ⊆ sAll by decide)) $$ [Hb Hh]
  · isplitl [Hb]; · iexact Hb
    iexact Hh
  iintro ⟨Hb, Hh⟩
  rw [wp_ret]; imodintro
  iapply (StableHlo.wp_hlo_within 𝒱 (SparseCore.T d) none Set.univ (op := opT1) (S := sAll) (show ({b_v0, b_v1} : Finset (DevRef τ sig)) ⊆ sAll by decide)) $$ [Hb Hh]
  · isplitl [Hb]; · iexact Hb
    iexact Hh
  iintro ⟨Hb, Hh⟩
  rw [wp_ret]; imodintro
  iapply (StableHlo.wp_hlo_within 𝒱 (SparseCore.T d) none Set.univ (op := opR2) (S := sAll) (show ({b_a1, b_v2} : Finset (DevRef τ sig)) ⊆ sAll by decide)) $$ [Hb Hh]
  · isplitl [Hb]; · iexact Hb
    iexact Hh
  iintro ⟨Hb, Hh⟩
  rw [wp_ret]; imodintro
  iapply (StableHlo.wp_hlo_within 𝒱 (SparseCore.T d) none Set.univ (op := opT3) (S := sAll) (show ({b_v2, b_v3} : Finset (DevRef τ sig)) ⊆ sAll by decide)) $$ [Hb Hh]
  · isplitl [Hb]; · iexact Hb
    iexact Hh
  iintro ⟨Hb, Hh⟩
  rw [wp_ret]; imodintro
  ihave Hh := (show (StableHlo.held (SparseCore.T d) sAll (opT3.result (opR2.result (opT1.result (opR0.result (W0 m d))))) : sProp 𝕄) ⊢ iprop((((d, b_a0) : Loc nD τ sig) ↦{fullShare} W4 m d b_a0) ∗ (((d, b_a1) : Loc nD τ sig) ↦{fullShare} W4 m d b_a1) ∗ (((d, b_a2) : Loc nD τ sig) ↦{fullShare} W4 m d b_a2) ∗ (((d, b_v0) : Loc nD τ sig) ↦{fullShare} W4 m d b_v0) ∗ (((d, b_v1) : Loc nD τ sig) ↦{fullShare} W4 m d b_v1) ∗ (((d, b_v2) : Loc nD τ sig) ↦{fullShare} W4 m d b_v2) ∗ (((d, b_v3) : Loc nD τ sig) ↦{fullShare} W4 m d b_v3) ∗ (((d, b_v4) : Loc nD τ sig) ↦{fullShare} W4 m d b_v4) ∗ (((d, b_cs) : Loc nD τ sig) ↦{fullShare} W4 m d b_cs) ∗ (((d, b_v5) : Loc nD τ sig) ↦{fullShare} W4 m d b_v5) ∗ (((d, b_ct) : Loc nD τ sig) ↦{fullShare} W4 m d b_ct) ∗ (((d, b_v6) : Loc nD τ sig) ↦{fullShare} W4 m d b_v6)) from
    Entails.of_eq (held_all d (W4 m d))) $$ Hh
  icases Hh with ⟨Ha0, Ha1, Ha2, -, Hp, -, Hbx, Ho, Hcs, Hv5, Hct, Hv6⟩
  iapply ((K (F := F)).wp_run (D (F := F)) 𝒱 (EH := EH) (P := P m) κ d 0) $$ [Hst Hp Hbx Ho Hb Ha0 Ha1 Ha2 Hcs Hv5 Hct Hv6 Hts]
  isplitr; · iexact Hctx
  isplitl [Hst]; · iexact Hst
  isplitl [Hp Hbx Ho]
  · rw [st0_eq]
    isplitl [Hp]; · iexact Hp
    isplitl [Hbx]; · iexact Hbx
    iexact Ho
  iintro ⟨Hst, Hdn⟩
  ihave Ho := (Entails.of_eq (dn0_eq m d)) $$ Hdn
  iapply (StableHlo.wp_hlo_within 𝒱 (SparseCore.T d) none Set.univ (op := opC) (S := sEnd) (V := W5 m d) (show ({b_cs} : Finset (DevRef τ sig)) ⊆ sEnd by decide)) $$ [Hb Ho Hcs Hv5 Hct Hv6]
  · isplitl [Hb]; · iexact Hb
    rw [held_end, W5_out, W5_of m d b_cs (by decide), W5_of m d b_v5 (by decide), W5_of m d b_ct (by decide), W5_of m d b_v6 (by decide)]
    isplitl [Ho]; · iexact Ho
    isplitl [Hcs]; · iexact Hcs
    isplitl [Hv5]; · iexact Hv5
    isplitl [Hct]; · iexact Hct
    iexact Hv6
  iintro ⟨Hb, Hh⟩
  rw [wp_ret]; imodintro
  iapply (StableHlo.wp_hlo_within 𝒱 (SparseCore.T d) none Set.univ (op := opS) (S := sEnd)  (show ({b_v4, b_cs, b_v5} : Finset (DevRef τ sig)) ⊆ sEnd by decide)) $$ [Hb Hh]
  · isplitl [Hb]; · iexact Hb
    iexact Hh
  iintro ⟨Hb, Hh⟩
  rw [wp_ret]; imodintro
  iapply (StableHlo.wp_hlo_within 𝒱 (SparseCore.T d) none Set.univ (op := opD) (S := sEnd)  (show ({b_ct} : Finset (DevRef τ sig)) ⊆ sEnd by decide)) $$ [Hb Hh]
  · isplitl [Hb]; · iexact Hb
    iexact Hh
  iintro ⟨Hb, Hh⟩
  rw [wp_ret]; imodintro
  iapply (StableHlo.wp_hlo_within 𝒱 (SparseCore.T d) none Set.univ (op := opQ) (S := sEnd)  (show ({b_v5, b_ct, b_v6} : Finset (DevRef τ sig)) ⊆ sEnd by decide)) $$ [Hb Hh]
  · isplitl [Hb]; · iexact Hb
    iexact Hh
  iintro ⟨Hb, Hh⟩
  rw [wp_ret]; imodintro
  ihave Hh := (show (StableHlo.held (SparseCore.T d) sEnd (opQ.result (opD.result (opS.result (opC.result (W5 m d))))) : sProp 𝕄) ⊢ iprop((((d, b_v4) : Loc nD τ sig) ↦{fullShare} W9 m d b_v4) ∗ (((d, b_cs) : Loc nD τ sig) ↦{fullShare} W9 m d b_cs) ∗ (((d, b_v5) : Loc nD τ sig) ↦{fullShare} W9 m d b_v5) ∗ (((d, b_ct) : Loc nD τ sig) ↦{fullShare} W9 m d b_ct) ∗ (((d, b_v6) : Loc nD τ sig) ↦{fullShare} W9 m d b_v6)) from
    Entails.of_eq (held_end d (W9 m d))) $$ Hh
  icases Hh with ⟨-, -, -, -, Hv6⟩
  imodintro
  isplitl [Hst]; · iexact Hst
  isplitr [Hb Hts]
  · unfold FIN
    rw [← W4_arg m d b_a0 (by decide), ← W4_arg m d b_a1 (by decide), ← W4_arg m d b_a2 (by decide)]
    isplitl [Ha0]; · iexact Ha0
    isplitl [Ha1]; · iexact Ha1
    isplitl [Ha2]; · iexact Ha2
    iexact Hv6
  isplitl [Hb] <;> iassumption

/-- What the final memory holds: the arguments, and the result. -/
def fq (d : Dev nD) (s' : Phys nD τ sig (Elt F)) : Prop :=
  s'.mem.mem (d, b_a0) = m (d, b_a0) ∧ s'.mem.mem (d, b_a1) = m (d, b_a1) ∧ s'.mem.mem (d, b_a2) = m (d, b_a2) ∧ s'.mem.mem (d, b_v6) = W9 m d b_v6

omit [FloatOps F] in
theorem agree1 (s' : Phys nD τ sig (Elt F)) (ℓ : Loc nD τ sig) (f : Buf (Elt F) ℓ) :
    iprop((ℓ ↦{fullShare} f) ∗ SI s') ⊢ (iprop(⌜s'.mem.mem ℓ = f⌝ ∗ SI s') : sProp 𝕄) := by
  iintro ⟨Hi, HSI⟩
  ihave H := (persistent_entails_right (SI_pointsTo_agree (st := s') (ℓ := ℓ) (I := Finset.univ) (q := fullShare) (f := f))) $$ [HSI Hi]
  · isplitl [HSI] <;> iassumption
  icases H with ⟨%h1, HSI, -⟩
  isplitr
  · ipureintro; exact funext fun i => h1 i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨H0, H1, H2, H6⟩, HSI⟩
  ihave H := (agree1 s' _ _) $$ [H0 HSI]
  · isplitl [H0] <;> iassumption
  icases H with ⟨%h0, HSI⟩
  ihave H := (agree1 s' _ _) $$ [H1 HSI]
  · isplitl [H1] <;> iassumption
  icases H with ⟨%h1, HSI⟩
  ihave H := (agree1 s' _ _) $$ [H2 HSI]
  · isplitl [H2] <;> iassumption
  icases H with ⟨%h2, HSI⟩
  ihave H := (agree1 s' _ _) $$ [H6 HSI]
  · isplitl [H6] <;> iassumption
  icases H with ⟨%h6, HSI⟩
  ipureintro; exact ⟨h0, h1, h2, h6⟩

/-! ## The program's run -/

def QC : PUnit × MemSt nD τ sig (Elt F) → Prop := fun r =>
  (∀ c : Dev nD, r.2.mem (c, b_a0) = m (c, b_a0) ∧ r.2.mem (c, b_a1) = m (c, b_a1) ∧ r.2.mem (c, b_a2) = m (c, b_a2) ∧ r.2.mem (c, b_v6) = W9 m c b_v6)
    ∧ r.2.sem = fun _ => 0

theorem run_main [∀ e, Nonempty (Elt F e)] :
    θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Launch

end Cert.Proof.K
end
-- ==== Proof.KIdeal.lean ====
/-
  The program read at the extended reals is, term for term, the program as printed; so its run is the run of `KLaunch`.
-/
module

public import proofs.«01_k».proof.Proof.KLaunch
public import proofs.«01_k».proof.Proof.Gen.KernelIdeal

@[expose] public section

noncomputable section

namespace Cert.Proof.KI

open Idealize.ShloMosaic Idealize.SL.Sem

/-- The two programs' tasks are the same. -/
theorem body_eq {F : FTy → Type} [FloatOps F] :
    (fun i => Cert.KernelIdeal.cc0__yolo_sc (F := F) i) = (fun i => Cert.Kernel.cc0__yolo_sc (F := F) i) := by
  funext i
  rfl

set_option maxHeartbeats 4000000 in
/-- The run of the program at the extended reals. -/
theorem run_main (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (Cert.KernelIdeal.threads (F := Ideal)) ⟨m, fun _ => 0, ρ⟩ (Cert.Proof.K.QC (F := Ideal) m) :=
  Cert.Proof.K.run_main (F := Ideal) m ρ

end Cert.Proof.KI
end
-- ==== Proof.Frames.lean ====
/-
  The claims about one program each: the programs' runs, read as the claims state them.
-/
module

public import proofs.«01_k».proof.Defs
public import proofs.«01_k».proof.Proof.KIdeal
public import proofs.«01_k».proof.Proof.Gen.ReferenceIdeal
public import proofs.«01_k».proof.Proof.Gen.ReferenceIdeal.Run

@[expose] public section

noncomputable section

namespace Cert.Proof

open Idealize.ShloMosaic Idealize.SL.Sem

theorem frame_Kernel : Cert.quiescent_Kernel (hKernel := Cert.Kernel.Gen.facts) := fun m ρ _ =>
  (θ_run Cert.Kernel.defs _ _).mono (fun _ h => ⟨fun c => ⟨(h.1 c).1, (h.1 c).2.1, (h.1 c).2.2.1⟩, h.2⟩) (K.run_main (F := Bits) m ρ)

theorem frame_KernelIdeal : Cert.quiescent_KernelIdeal (hKernelIdeal := Cert.KernelIdeal.Gen.facts) := fun m ρ _ =>
  (θ_run Cert.KernelIdeal.defs _ _).mono (fun _ h => ⟨fun c => ⟨(h.1 c).1, (h.1 c).2.1, (h.1 c).2.2.1⟩, h.2⟩) (KI.run_main m ρ)

theorem frame_ReferenceIdeal : Cert.quiescent_ReferenceIdeal (hReferenceIdeal := Cert.ReferenceIdeal.Gen.facts) := fun m ρ _ =>
  (θ_run Cert.ReferenceIdeal.defs _ _).mono (fun r h => ⟨fun c => ⟨(h c).2.1, (h c).2.2.1, (h c).2.2.2⟩, sem_eq_zero_of_no_sems (by decide) r.2⟩) (Cert.ReferenceIdeal.Value.run m ρ)

end Cert.Proof

end
-- ==== Proof.VSpec.lean ====
/-
  The loss of one cell of one picture over the extended reals, in the form to which both programs' results are brought,
  and the arithmetic and the sums that bring them there.
-/
module

public import proofs.«01_k».proof.Proof.KVals
public import Idealize.ShloMosaic.PureOps.Ideal.Laws
public import Idealize.ShloMosaic.Lib.IdealHost
public import Idealize.ShloMosaic.Lib.Pointwise.Index
public import Idealize.ShloMosaic.Lib.ScatterToDense.RefFold

@[expose] public section

noncomputable section

namespace Cert.Proof.V

open Idealize.ShloMosaic
open Idealize.ShloMosaic.ScatterToDense (GS GS_succ)
open Cert.Proof.K (gcl gci gct gcw)

abbrev SP : Shape := ⟨5, ![256, 13, 13, 2, 25]⟩
abbrev SB : Shape := ⟨3, ![256, 8, 4]⟩

/-! ## The values of the literals -/

theorem lit_two : Ideal.ofBits .f32 0x40000000#32 = ((2 : ℝ) : EReal) := by
  simp [Ideal.ofBits, Ideal.ieee, -EReal.coe_mul]; norm_num
theorem lit_five : Ideal.ofBits .f32 0x40A00000#32 = ((5 : ℝ) : EReal) := by
  simp [Ideal.ofBits, Ideal.ieee, -EReal.coe_mul]; norm_num
theorem lit_32 : Ideal.ofBits .f32 0x42000000#32 = ((32 : ℝ) : EReal) := by
  simp [Ideal.ofBits, Ideal.ieee, -EReal.coe_mul]; norm_num
theorem lit_edge : ∃ e : ℝ, Ideal.ofBits .f32 0x414FFFFF#32 = (e : EReal) ∧ 0 ≤ e ∧ e < 13 := by
  refine ⟨13631487 / 1048576, ?_, by norm_num, by norm_num⟩
  simp [Ideal.ofBits, Ideal.ieee, -EReal.coe_mul]; norm_num

/-! ## A box's cell -/

/-- Where the ends of an interval add up to no less than zero, its centre lies in one of the thirteen cells: truncated
    or rounded down, the coordinate is the cell's number. -/
theorem centre (a b : EReal) (h : 0 ≤ a + b) : ∃ n : ℕ, n < 13 ∧ gci (F := Ideal) a b = BitVec.ofNat 32 n
    ∧ Ideal.liftRound Int.floor (gcl (F := Ideal) a b) = ((n : ℝ) : EReal) := by
  obtain ⟨e, he, he0, he1⟩ := lit_edge
  have hx : 0 ≤ Ideal.div (Ideal.div (a + b) (Ideal.ofBits .f32 0x40000000#32)) (Ideal.ofBits .f32 0x42000000#32) := by
    have h2 : ((2 : ℝ) : EReal) ≠ 0 := by norm_num
    have h32 : ((32 : ℝ) : EReal) ≠ 0 := by norm_num
    rw [lit_two, lit_32, Ideal.div, Ideal.div, if_neg h2, if_neg h32]
    refine mul_nonneg (mul_nonneg h ?_) ?_ <;> rw [← EReal.coe_inv] <;> exact EReal.coe_nonneg.mpr (by norm_num)
  have hg : gcl (F := Ideal) a b = min (Ideal.div (Ideal.div (a + b) (Ideal.ofBits .f32 0x40000000#32)) (Ideal.ofBits .f32 0x42000000#32)) (e : EReal) := by
    rw [← he]; rfl
  obtain ⟨r, hr, hr0, hr1⟩ : ∃ r : ℝ, gcl (F := Ideal) a b = (r : EReal) ∧ 0 ≤ r ∧ r < 13 := by
    rw [hg]
    generalize Ideal.div _ _ = x at hx
    induction x using EReal.rec with
    | bot => exact absurd hx (by simp)
    | top => exact ⟨e, by simp, he0, he1⟩
    | coe x =>
      refine ⟨min x e, (EReal.coe_strictMono.monotone.map_min).symm, le_min (EReal.coe_nonneg.mp hx) he0, (min_le_right _ _).trans_lt he1⟩
  have hf0 : 0 ≤ ⌊r⌋ := Int.floor_nonneg.mpr hr0
  have hf1 : ⌊r⌋ < 13 := Int.floor_lt.mpr (by exact_mod_cast hr1)
  obtain ⟨n, hn⟩ := Int.eq_ofNat_of_zero_le hf0
  refine ⟨n, by omega, ?_, ?_⟩
  · show Ideal.fptosi 32 (gcl (F := Ideal) a b) = _
    rw [hr]
    show BitVec.ofInt 32 (max _ (min _ (if 0 ≤ r then ⌊r⌋ else ⌈r⌉))) = _
    rw [if_pos hr0, hn, min_eq_right (by norm_num <;> omega), max_eq_right (by norm_num <;> omega)]
    exact BitVec.ofInt_natCast ..
  · rw [hr]
    show (((⌊r⌋ : ℤ) : ℝ) : EReal) = _
    rw [hn]; rfl

/-- A small number's word is converted to the number, -/
theorem sitofp_nat (n : ℕ) (h : n < 13) : FloatOps.sitofp (F := Ideal) .f32 (BitVec.ofNat 32 n) = ((n : ℝ) : EReal) := by
  show (((BitVec.ofNat 32 n).toInt : ℝ) : EReal) = _
  have : (BitVec.ofNat 32 n).toInt = n := by
    rw [BitVec.toInt_eq_toNat_of_lt (by rw [BitVec.toNat_ofNat]; omega), BitVec.toNat_ofNat]; omega
  rw [this]; rfl
/-- and the number to the word. -/
theorem fptosi_nat (n : ℕ) (h : n < 13) : Ideal.fptosi 32 ((n : ℝ) : EReal) = BitVec.ofNat 32 n := by
  show BitVec.ofInt 32 (max _ (min _ (if 0 ≤ (n : ℝ) then ⌊(n : ℝ)⌋ else ⌈(n : ℝ)⌉))) = _
  rw [if_pos (Nat.cast_nonneg n), Int.floor_natCast, min_eq_right (by norm_num <;> omega), max_eq_right (by norm_num <;> omega)]
  exact BitVec.ofInt_natCast ..

/-! ## One cell of one picture -/

variable (A : SP.Idx → EReal) (B : SB.Idx → EReal)

/-- Cell `n` of picture `b`, anchor `a`, channel `c` of the predictions. -/
def pr (b n : ℕ) (a : Fin 2) (c : Fin 25) : EReal :=
  A (ix5 ⟨b % 256, Nat.mod_lt _ (by decide)⟩ ⟨n / 13 % 13, Nat.mod_lt _ (by decide)⟩ ⟨n % 13, Nat.mod_lt _ (by decide)⟩ a c)
/-- Coordinate `c` of box `j` of picture `b`. -/
def bo (b j : ℕ) (c : Fin 4) : EReal := B (ix3 ⟨b % 256, Nat.mod_lt _ (by decide)⟩ ⟨j % 8, Nat.mod_lt _ (by decide)⟩ c)
/-- The number of its cell, -/
def cel (b j : ℕ) : BitVec 32 :=
  IntOp.addi (IntOp.muli (gci (F := Ideal) (bo B b j 1) (bo B b j 3)) 13#32) (gci (F := Ideal) (bo B b j 0) (bo B b j 2))
/-- and its targets. -/
def tar (c : Fin 4) (b j : ℕ) : EReal :=
  (![gct (F := Ideal) (bo B b j 0) (bo B b j 2), gct (F := Ideal) (bo B b j 1) (bo B b j 3), gcw (F := Ideal) (bo B b j 0) (bo B b j 2),
    gcw (F := Ideal) (bo B b j 1) (bo B b j 3)] : Fin 4 → EReal) c
/-- The target of cell `n`: the last box's that lies in it, zero without one. -/
def tg (c : Fin 4) (b n : ℕ) : EReal := GS (cel B b) (tar B c b) 0 n 8
/-- Whether a box lies in the cell, as a number. -/
def on (b n : ℕ) : EReal := GS (cel B b) (fun _ => (1 : EReal)) 0 n 8
/-- The squared distance from the target, -/
def co (b n : ℕ) : EReal := ∑ c : Fin 4, (pr A b n 0 (c.castLE (by decide)) - tg B c b n) * (pr A b n 0 (c.castLE (by decide)) - tg B c b n)
/-- and the squares of the class scores. -/
def cl (b n : ℕ) : EReal := ∑ c : Fin 20, pr A b n 0 (Fin.natAdd 5 c) * pr A b n 0 (Fin.natAdd 5 c)
/-- The confidences' part of the cell's loss, -/
def cf (b n : ℕ) : EReal := (pr A b n 0 4 - on B b n) * (pr A b n 0 4 - on B b n) + pr A b n 1 4 * pr A b n 1 4
/-- and all of it. -/
def loss (b n : ℕ) : EReal := cf A B b n + on B b n * (((5 : ℝ) : EReal) * co A B b n + cl A b n)

theorem GS_one (w : ℕ → BitVec 32) (n k : ℕ) : (GS w (fun _ => (1 : EReal)) 0 n k = 0 ∧ ∀ j < k, ¬ n = (w j).toNat)
    ∨ (GS w (fun _ => (1 : EReal)) 0 n k = 1 ∧ ∃ j < k, n = (w j).toNat) := by
  induction k with
  | zero => exact Or.inl ⟨rfl, fun _ h => absurd h (by omega)⟩
  | succ k ih =>
    rw [GS_succ]
    by_cases h : n = (w k).toNat
    · rw [if_pos h]; exact Or.inr ⟨rfl, k, by omega, h⟩
    · rw [if_neg h]
      rcases ih with ⟨e, q⟩ | ⟨e, j, hj, q⟩
      · exact Or.inl ⟨e, fun j hj => by
          rcases Nat.lt_succ_iff_lt_or_eq.mp hj with hj | rfl
          · exact q j hj
          · exact h⟩
      · exact Or.inr ⟨e, j, by omega, q⟩

theorem on_or (b n : ℕ) : on B b n = 0 ∨ on B b n = 1 :=
  (GS_one (cel B b) n 8).imp And.left And.left

/-! ## Arithmetic -/

theorem sq_nonneg (x : EReal) : 0 ≤ x * x := by
  induction x using EReal.rec with
  | bot => simp
  | top => simp
  | coe x => rw [← EReal.coe_mul]; exact EReal.coe_nonneg.mpr (mul_self_nonneg x)

/-- The kernel adds the square of the confidence for every cell, and corrects it where a box lies in the cell. -/
theorem corr (o p q c l : EReal) (ho : o = 0 ∨ o = 1) (hp : p ≠ ⊤) :
    p * p + q * q + (if o = 1 then ((5 : ℝ) : EReal) * c + (1 - ((2 : ℝ) : EReal) * p) + l else 0)
      = (p - o) * (p - o) + q * q + o * (((5 : ℝ) : EReal) * c + l) := by
  rcases ho with rfl | rfl
  · rw [if_neg (by norm_num), sub_zero, zero_mul]
  · rw [if_pos rfl, one_mul]
    have e : (p - 1) * (p - 1) = p * p + (1 - ((2 : ℝ) : EReal) * p) := by
      induction p with
      | bot => rw [EReal.bot_sub, EReal.bot_mul_bot, EReal.coe_mul_bot_of_pos (by norm_num)]; rfl
      | top => exact absurd rfl hp
      | coe p => norm_cast; ring_nf
    rw [e]
    generalize p * p = x, 1 - ((2 : ℝ) : EReal) * p = y, ((5 : ℝ) : EReal) * c = z, q * q = u
    ac_rfl

theorem mul_sum_nonneg {ι : Type} (s : Finset ι) (k : EReal) (f : ι → EReal) (h : ∀ i, 0 ≤ f i) : k * ∑ i ∈ s, f i = ∑ i ∈ s, k * f i := by
  classical
  induction s using Finset.induction_on with
  | empty => simp
  | insert a s ha ih =>
    rw [Finset.sum_insert ha, Finset.sum_insert ha, EReal.left_distrib_of_nonneg (h a) (Finset.sum_nonneg fun i _ => h i), ih]

/-! ## Sums over products of ranges -/

theorem sum_grid {M : Type} [AddCommMonoid M] (n : ℕ) (f : ℕ → M) : ∀ k, ∑ x ∈ Finset.range k, ∑ y ∈ Finset.range n, f (n * x + y)
    = ∑ z ∈ Finset.range (n * k), f z
  | 0 => by simp
  | k + 1 => by rw [Finset.sum_range_succ, sum_grid n f k, Nat.mul_succ, Finset.sum_range_add]

end Cert.Proof.V
end
-- ==== Proof.VKer.lean ====
/-
  The kernel's result over the extended reals: the sum of every cell's loss over every picture.
-/
module

public import proofs.«01_k».proof.Proof.VSpec
public import proofs.«01_k».proof.Proof.KHost
public import Idealize.ShloMosaic.Lib.Pointwise.Tactic
public import Idealize.ShloMosaic.Lib.Pointwise.Reshape

@[expose] public section

noncomputable section

namespace Cert.Proof.V

open Cert.Kernel Cert.Kernel.Gen
open Idealize.ShloMosaic Idealize.ShloMosaic.StableHlo
open Cert.Proof.K (b_a0 b_a1 b_v0 b_v1 b_v2 b_v3 b_v4 b_cs b_v5 b_ct b_v6 pV bV W4 W0 W5 W9)

variable (m : (ℓ : Loc nD τ sig) → Buf (Elt Ideal) ℓ) (d : Dev nD)

/-- The predictions and the boxes. -/
abbrev argA : SP.Idx → EReal := m (d, b_a0)
abbrev argB : SB.Idx → EReal := m (d, b_a1)

theorem pV_eq : pV (F := Ideal) m d = transpose S13x13x25x2x2x128 [2, 3, 5, 0, 4, 1]
    (shapeCast S2x128x13x13x2x25 (argA m d) shapeCasts_S256x13x13x2x25_S2x128x13x13x2x25)
    transposes_S2x128x13x13x2x25_S13x13x25x2x2x128_2_3_5_0_4_1 := by
  unfold pV W4
  after_results_simp
  rfl

theorem pV_at (n : ℕ) (c : Fin 25) (a k : Fin 2) (e : Fin 128) : pV (F := Ideal) m d (K.ix6 n c a k e) = pr (argA m d) (a.val * 128 + e.val) n k c := by
  rw [pV_eq, show (K.ix6 n c a k e : S13x13x25x2x2x128.Idx) = ix6 ⟨n / 13 % 13, Nat.mod_lt _ (by decide)⟩ ⟨n % 13, Nat.mod_lt _ (by decide)⟩ c a k e by
    funext i; fin_cases i <;> rfl]
  pointwise
  have ha := a.isLt
  have he := e.isLt
  have h : (a.val * 128 + e.val) % 256 = a.val * 128 + e.val := Nat.mod_eq_of_lt (by omega)
  simp only [pr, h]

theorem bV_eq : bV (F := Ideal) m d = transpose S8x2x4x128 [2, 0, 3, 1]
    (shapeCast S2x128x8x4 (argB m d) shapeCasts_S256x8x4_S2x128x8x4) transposes_S2x128x8x4_S8x2x4x128_2_0_3_1 := by
  unfold bV W4
  after_results_simp
  rfl

theorem bV_at (j : Fin 8) (a : Fin 2) (c : Fin 4) (e : Fin 128) : bV (F := Ideal) m d (K.ix4 j a c e) = bo (argB m d) (a.val * 128 + e.val) j.val c := by
  rw [bV_eq, show (K.ix4 j a c e : S8x2x4x128.Idx) = ix4 j a c e by funext i; fin_cases i <;> rfl]
  pointwise
  have ha := a.isLt
  have he := e.isLt
  have hj := j.isLt
  have h : (a.val * 128 + e.val) % 256 = a.val * 128 + e.val := Nat.mod_eq_of_lt (by omega)
  have h' : j.val % 8 = j.val := Nat.mod_eq_of_lt hj
  simp only [bo, h, h']

theorem W9_eq : W9 (F := Ideal) m d b_v6 = Host.divf (Host.reduceAdd (K.OUT (pV m d) (bV m d)) (constant (F := Ideal) S_ .f32 0x00000000#32) reducesTo_S32x16_S_d0_1 h_S_)
    (constant S_ .f32 0x43800000#32) := by
  unfold W9
  after_results_simp
  rw [K.W5_out]

end Cert.Proof.V
end
-- ==== Proof.VSum.lean ====
/-
  The kernel's sum over the extended reals: a slot adds its cell's loss, a subcore's lane the losses of its cells over its
  pictures, and all lanes together the losses of all cells of all pictures.
-/
module

public import proofs.«01_k».proof.Proof.VKer

@[expose] public section

noncomputable section

namespace Cert.Proof.V

open Cert.Kernel Cert.Kernel.Gen
open Idealize.ShloMosaic Idealize.ShloMosaic.StableHlo
open Idealize.ShloMosaic.ScatterToDense (GS GS_succ GS_zero)
open Cert.Proof.K (b_a0 b_a1 b_v6 pV bV W9 gcl gci gct gcw hitW maskW lastT coordL clsL slotL slotsL stepL accL cidS negW gh gl Gcid Gtx Gty Gtw Gth xcT xfT rowV wid crow OUT)

/-! ## One slot -/

theorem sel_hit {α : Type} (cid : BitVec 32) (cj : Fin 8 → BitVec 32) (j : Fin 8) (x y : α) :
    Scalar.select (hitW cid cj j) x y = if cid.toNat = (cj j).toNat then x else y := by
  unfold hitW Scalar.select IntOp.cmpi
  by_cases h : cid.toNat = (cj j).toNat
  · rw [if_pos h, BitVec.eq_of_toNat_eq h]; simp
  · rw [if_neg h]
    have e : (cj j == cid) = false := beq_eq_false_iff_ne.mpr fun e => h (by rw [e])
    rw [e]; rfl

theorem ori_hit (s : BitVec 1) (cid : BitVec 32) (cj : Fin 8 → BitVec 32) (j : Fin 8) :
    IntOp.ori s (hitW cid cj j) = Scalar.select (hitW cid cj j) 1#1 s := by
  generalize hitW cid cj j = h
  revert s h; decide

/-- The last box that lies in the cell sets the target. -/
theorem last_eq {α : Type} (z : α) (cid : BitVec 32) (cj : Fin 8 → BitVec 32) (t : Fin 8 → α) (w : ℕ → BitVec 32) (v : ℕ → α)
    (hw : ∀ j : Fin 8, cj j = w j) (hv : ∀ j : Fin 8, t j = v j) :
    ([0, 1, 2, 3, 4, 5, 6, 7] : List (Fin 8)).foldl (fun s j => Scalar.select (hitW cid cj j) (t j) s) z = GS w v z cid.toNat 8 := by
  simp only [List.foldl_cons, List.foldl_nil, sel_hit, hw, hv]
  rfl

theorem mask_eq (cid : BitVec 32) (cj : Fin 8 → BitVec 32) (w : ℕ → BitVec 32) (hw : ∀ j : Fin 8, cj j = w j) :
    maskW 0#1 cid cj = GS w (fun _ => 1#1) 0#1 cid.toNat 8 := by
  unfold maskW
  simp only [ori_hit]
  exact last_eq 0#1 cid cj (fun _ => 1#1) w _ hw fun _ => rfl

theorem GS_map {α β : Type} (f : α → β) (w : ℕ → BitVec 32) (v : ℕ → α) (z : α) (n k : ℕ) :
    GS w (fun j => f (v j)) (f z) n k = f (GS w v z n k) := by
  induction k with
  | zero => rfl
  | succ k ih => rw [GS_succ, GS_succ, ih, apply_ite f]

theorem on_mask (w : ℕ → BitVec 32) (n k : ℕ) (x y : EReal) :
    Scalar.select (GS w (fun _ => 1#1) 0#1 n k) x y = if GS w (fun _ => (1 : EReal)) 0 n k = 1 then x else y := by
  have e : GS w (fun _ => (1 : EReal)) 0 n k = if GS w (fun _ => 1#1) 0#1 n k = 1#1 then 1 else 0 := by
    have := GS_map (fun b : BitVec 1 => if b = 1#1 then (1 : EReal) else 0) w (fun _ => 1#1) 0#1 n k
    simpa using this
  rw [e]
  unfold Scalar.select
  by_cases h : GS w (fun _ => 1#1) 0#1 n k = 1#1
  · simp [h]
  · have h' : ¬ GS w (fun _ => 1#1) 0#1 n k = 1 := h
    simp [h, h']

variable (A : SP.Idx → EReal) (B : SB.Idx → EReal)

theorem coord_eq (b n : ℕ) (cid : BitVec 32) (cj : Fin 8 → BitVec 32) (t : Fin 4 → Fin 8 → EReal) (cb : Fin 25 → EReal) (hcid : cid.toNat = n)
    (hcj : ∀ j : Fin 8, cj j = cel B b j) (ht : ∀ c (j : Fin 8), t c j = tar B c b j) :
    coordL (F := Ideal) (0 : EReal) cid cj t cb = ∑ c : Fin 4, (cb (c.castLE (by decide)) - tg B c b n) * (cb (c.castLE (by decide)) - tg B c b n) := by
  have hl : ∀ c, lastT (F := Ideal) (0 : EReal) cid cj (t c) = tg B c b n := fun c => by
    rw [tg, ← hcid]; exact last_eq (0 : EReal) cid cj (t c) _ _ hcj (ht c)
  unfold coordL
  simp only [List.foldl_cons, List.foldl_nil, hl]
  rw [Fin.sum_univ_four]
  show (((0 : EReal) + _) + _) + _ + _ = _
  rw [zero_add]; rfl

theorem cls_eq (cb : Fin 25 → EReal) : clsL (F := Ideal) (0 : EReal) cb = ∑ c : Fin 20, cb (Fin.natAdd 5 c) * cb (Fin.natAdd 5 c) := by
  unfold clsL
  rw [show ([5, 6, 7, 8, 9, 10, 11, 12, 13, 14, 15, 16, 17, 18, 19, 20, 21, 22, 23, 24] : List (Fin 25)) = (List.finRange 20).map (Fin.natAdd 5) by decide,
    List.foldl_map, ← List.ofFn_id]
  simp only [Fin.sum_univ_succ, Fin.sum_univ_zero, List.ofFn_succ, List.ofFn_zero, List.foldl_cons, List.foldl_nil]
  simp only [add_zero, ← add_assoc]
  show ((0 : EReal) + _) + _ + _ + _ + _ + _ + _ + _ + _ + _ + _ + _ + _ + _ + _ + _ + _ + _ + _ + _ = _
  rw [zero_add]; rfl

theorem slot_eq (b n : ℕ) (acc : EReal) (cid : BitVec 32) (cj : Fin 8 → BitVec 32) (t : Fin 4 → Fin 8 → EReal) (cb : Fin 25 → EReal) (q : EReal)
    (hcid : cid.toNat = n) (hcj : ∀ j : Fin 8, cj j = cel B b j) (ht : ∀ c (j : Fin 8), t c j = tar B c b j) (hp : cb 4 ≠ ⊤) :
    slotL (F := Ideal) acc (0 : EReal) 0#1 cid cj t cb q = acc + ((cb 4 - on B b n) * (cb 4 - on B b n) + q * q
      + on B b n * (((5 : ℝ) : EReal) * (∑ c : Fin 4, (cb (c.castLE (by decide)) - tg B c b n) * (cb (c.castLE (by decide)) - tg B c b n))
        + ∑ c : Fin 20, cb (Fin.natAdd 5 c) * cb (Fin.natAdd 5 c))) := by
  rw [← corr _ _ _ _ _ (on_or B b n) hp, ← coord_eq B b n cid cj t cb hcid hcj ht, ← cls_eq cb]
  unfold slotL
  rw [mask_eq cid cj _ hcj, on_mask, hcid]
  have h5 : (Scalar.ofBits .f32 0x40A00000#32 : Ideal .f32) = ((5 : ℝ) : EReal) := lit_five
  have h2 : (Scalar.ofBits .f32 0x40000000#32 : Ideal .f32) = ((2 : ℝ) : EReal) := lit_two
  have h1 : (Scalar.ofBits .f32 0x3F800000#32 : Ideal .f32) = (1 : EReal) := Ideal.ofBits_one_f32
  have h0 : (Scalar.ofBits .f32 0x00000000#32 : Ideal .f32) = (0 : EReal) := Ideal.ofBits_zero_f32
  rw [h5, h2, h1, h0]
  show ((acc + _ * _) + q * q) + (if _ then _ else _) = _
  rw [add_assoc, add_assoc, add_assoc]
  rfl

/-! ## The boxes' cells -/

theorem cel_eq (b j : ℕ) (hx : 0 ≤ bo B b j 0 + bo B b j 2) (hy : 0 ≤ bo B b j 1 + bo B b j 3) :
    ∃ x y : ℕ, x < 13 ∧ y < 13 ∧ gci (F := Ideal) (bo B b j 0) (bo B b j 2) = BitVec.ofNat 32 x
      ∧ gci (F := Ideal) (bo B b j 1) (bo B b j 3) = BitVec.ofNat 32 y ∧ (cel B b j).toNat = 13 * y + x := by
  obtain ⟨x, hx, ex, _⟩ := centre _ _ hx
  obtain ⟨y, hy, ey, _⟩ := centre _ _ hy
  refine ⟨x, y, hx, hy, ex, ey, ?_⟩
  unfold cel
  rw [ex, ey]
  show (BitVec.ofNat 32 y * 13#32 + BitVec.ofNat 32 x).toNat = _
  rw [BitVec.toNat_add, BitVec.toNat_mul, BitVec.toNat_ofNat, BitVec.toNat_ofNat, BitVec.toNat_ofNat]
  omega

/-- No box lies in a cell past the last. -/
theorem on_far (hc : ∀ b j, 0 ≤ bo B b j 0 + bo B b j 2 ∧ 0 ≤ bo B b j 1 + bo B b j 3) (b n : ℕ) (hn : ¬ n < 169) : on B b n = 0 := by
  rcases GS_one (cel B b) n 8 with h | ⟨_, j, _, e⟩
  · exact h.1
  · obtain ⟨x, y, hx, hy, _, _, h⟩ := cel_eq B b j (hc b j).1 (hc b j).2
    omega

/-! ## A subcore's sum -/

/-- The loss of cell `n` of picture `b`, zero past the last cell. -/
def lossS (b n : ℕ) : EReal := if n < 169 then loss A B b n else 0

theorem zero_vec (i : S16.Idx) : k0_pay595 (F := Ideal) i = (0 : EReal) := by
  unfold k0_pay595
  show Ideal.ofBits .f32 0x00000000#32 * _ = (0 : EReal)
  rw [Ideal.ofBits_zero_f32, zero_mul]

theorem neg_iota : ∀ i : S16.Idx, negW (iota .scVector S16 32 [0] iota_S16_d0_w32_scVector) i = 0#1 := by decide +kernel

theorem cid_nat : ∀ (L : grid0.Coords) (s : Fin 6),
    (cidS (Scalar.addi (Scalar.muli (BitVec.ofNat 32 (L 1).val) 2#32) (BitVec.ofNat 32 (L 0).val)) s).toNat = 32 * s.val + wid L := by decide +kernel

variable (pf : S13x13x25x2x2x128.Idx → EReal) (bf : S8x2x4x128.Idx → EReal)

theorem lane_eq (k : ℕ) (hk : k < 16) (i : Fin 16) : (gh k).val * 128 + (gl k i).val = 16 * k + i.val := by
  show k / 8 % 2 * 128 + (k % 8 * 16 + i.val) = _
  omega

theorem bx_at (hB : ∀ j a c e, bf (K.ix4 j a c e) = bo B (a.val * 128 + e.val) j.val c) (k : ℕ) (hk : k < 16) (i : Fin 16) (j : Fin 8) (c : Fin 4) :
    K.bx (F := Ideal) bf (K.ix3 j (gh k) (gl k i)) c = bo B (16 * k + i.val) j.val c := by
  rw [← lane_eq k hk i]; exact hB j (gh k) c (gl k i)

theorem slot_at (hP : ∀ n c a k e, pf (K.ix6 n c a k e) = pr A (a.val * 128 + e.val) n k c)
    (hB : ∀ j a c e, bf (K.ix4 j a c e) = bo B (a.val * 128 + e.val) j.val c)
    (hA : ∀ b n, pr A b n 0 4 ≠ ⊤) (hc : ∀ b j, 0 ≤ bo B b j 0 + bo B b j 2 ∧ 0 ≤ bo B b j 1 + bo B b j 3)
    (L : grid0.Coords) (k : ℕ) (hk : k < 16) (i : S16.Idx) (s : Fin 6) (acc : EReal) :
    slotL (F := Ideal) acc (k0_pay595 (F := Ideal) i) (negW (iota .scVector S16 32 [0] iota_S16_d0_w32_scVector) i)
      (cidS (Scalar.addi (Scalar.muli (BitVec.ofNat 32 (L 1).val) 2#32) (BitVec.ofNat 32 (L 0).val)) s)
      (fun j => Gcid (F := Ideal) bf (K.ix3 j (gh k) (gl k (i 0))))
      (fun e j => (![Gtx (F := Ideal) bf, Gty (F := Ideal) bf, Gtw (F := Ideal) bf, Gth (F := Ideal) bf] : Fin 4 → S8x2x128.Idx → EReal) e (K.ix3 j (gh k) (gl k (i 0))))
      (fun ch => xcT (F := Ideal) pf (wid L) s (K.ixc ch (gh k) (gl k (i 0)))) (xfT (F := Ideal) pf (wid L) s (K.ixf (gh k) (gl k (i 0))))
    = acc + lossS A B (16 * k + (i 0).val) (32 * s.val + wid L) := by
  have hbx := bx_at B bf hB k hk (i 0)
  have hcj : ∀ j : Fin 8, Gcid (F := Ideal) bf (K.ix3 j (gh k) (gl k (i 0))) = cel B (16 * k + (i 0).val) j := fun j => by
    unfold Gcid cel; simp only [hbx]
  have ht : ∀ (c : Fin 4) (j : Fin 8), (![Gtx (F := Ideal) bf, Gty (F := Ideal) bf, Gtw (F := Ideal) bf, Gth (F := Ideal) bf] : Fin 4 → S8x2x128.Idx → EReal) c (K.ix3 j (gh k) (gl k (i 0)))
      = tar B c (16 * k + (i 0).val) j := fun c j => by
    fin_cases c <;> simp [tar, Gtx, Gty, Gtw, Gth, hbx]
  rw [zero_vec, neg_iota]
  by_cases hn : 32 * s.val + wid L < 169
  · have e1 : ∀ ch, xcT (F := Ideal) pf (wid L) s (K.ixc ch (gh k) (gl k (i 0))) = pr A (16 * k + (i 0).val) (32 * s.val + wid L) 0 ch := fun ch => by
      rw [xcT, if_pos hn, ← lane_eq k hk (i 0)]; exact hP _ ch (gh k) 0 (gl k (i 0))
    have e2 : xfT (F := Ideal) pf (wid L) s (K.ixf (gh k) (gl k (i 0))) = pr A (16 * k + (i 0).val) (32 * s.val + wid L) 1 4 := by
      rw [xfT, if_pos hn, ← lane_eq k hk (i 0)]; exact hP _ 4 (gh k) 1 (gl k (i 0))
    simp only [e1, e2]
    rw [slot_eq B (16 * k + (i 0).val) _ acc _ _ _ _ _ (cid_nat L s) hcj ht (hA _ _), lossS, if_pos hn]
    rfl
  · have e1 : ∀ ch, xcT (F := Ideal) pf (wid L) s (K.ixc ch (gh k) (gl k (i 0))) = 0 := fun ch => by
      rw [xcT, if_neg hn]; exact zero_vec _
    have e2 : xfT (F := Ideal) pf (wid L) s (K.ixf (gh k) (gl k (i 0))) = 0 := by
      rw [xfT, if_neg hn]; exact zero_vec _
    simp only [e1, e2]
    rw [slot_eq B (16 * k + (i 0).val) _ acc _ _ _ _ _ (cid_nat L s) hcj ht EReal.zero_ne_top, lossS, if_neg hn, on_far B hc _ _ hn]
    simp

theorem step_at (hP : ∀ n c a k e, pf (K.ix6 n c a k e) = pr A (a.val * 128 + e.val) n k c)
    (hB : ∀ j a c e, bf (K.ix4 j a c e) = bo B (a.val * 128 + e.val) j.val c)
    (hA : ∀ b n, pr A b n 0 4 ≠ ⊤) (hc : ∀ b j, 0 ≤ bo B b j 0 + bo B b j 2 ∧ 0 ≤ bo B b j 1 + bo B b j 3)
    (L : grid0.Coords) (k : ℕ) (hk : k < 16) (acc : S16.Idx → EReal) (i : S16.Idx) :
    stepL (F := Ideal) (Scalar.addi (Scalar.muli (BitVec.ofNat 32 (L 1).val) 2#32) (BitVec.ofNat 32 (L 0).val)) (iota .scVector S16 32 [0] iota_S16_d0_w32_scVector)
      (k0_pay595 (F := Ideal)) (Gcid (F := Ideal) bf) ![Gtx (F := Ideal) bf, Gty (F := Ideal) bf, Gtw (F := Ideal) bf, Gth (F := Ideal) bf] (xcT (F := Ideal) pf (wid L)) (xfT (F := Ideal) pf (wid L)) k acc i
    = acc i + ∑ s ∈ Finset.range 6, lossS A B (16 * k + (i 0).val) (32 * s + wid L) := by
  have h := slot_at A B pf bf hP hB hA hc L k hk i
  unfold stepL slotsL
  generalize acc i = z
  refine (congrArg (fun f : EReal → Fin 6 → EReal => List.foldl f z [0, 1, 2, 3, 4, 5]) (funext fun a => funext fun s => h s a)).trans ?_
  simp only [List.foldl_cons, List.foldl_nil, Finset.sum_range_succ, Finset.sum_range_zero, zero_add, ← add_assoc]
  rfl

theorem acc_at (hP : ∀ n c a k e, pf (K.ix6 n c a k e) = pr A (a.val * 128 + e.val) n k c)
    (hB : ∀ j a c e, bf (K.ix4 j a c e) = bo B (a.val * 128 + e.val) j.val c)
    (hA : ∀ b n, pr A b n 0 4 ≠ ⊤) (hc : ∀ b j, 0 ≤ bo B b j 0 + bo B b j 2 ∧ 0 ≤ bo B b j 1 + bo B b j 3)
    (L : grid0.Coords) (i : S16.Idx) : ∀ n ≤ 16,
    accL (F := Ideal) (Scalar.addi (Scalar.muli (BitVec.ofNat 32 (L 1).val) 2#32) (BitVec.ofNat 32 (L 0).val)) (iota .scVector S16 32 [0] iota_S16_d0_w32_scVector)
      (k0_pay595 (F := Ideal)) (Gcid (F := Ideal) bf) ![Gtx (F := Ideal) bf, Gty (F := Ideal) bf, Gtw (F := Ideal) bf, Gth (F := Ideal) bf] (xcT (F := Ideal) pf (wid L)) (xfT (F := Ideal) pf (wid L)) n i
    = ∑ k ∈ Finset.range n, ∑ s ∈ Finset.range 6, lossS A B (16 * k + (i 0).val) (32 * s + wid L)
  | 0, _ => zero_vec i
  | n + 1, h => by
    rw [Finset.sum_range_succ, ← acc_at hP hB hA hc L i n (by omega)]
    exact step_at A B pf bf hP hB hA hc L n (by omega) _ i

theorem row_at (hP : ∀ n c a k e, pf (K.ix6 n c a k e) = pr A (a.val * 128 + e.val) n k c)
    (hB : ∀ j a c e, bf (K.ix4 j a c e) = bo B (a.val * 128 + e.val) j.val c)
    (hA : ∀ b n, pr A b n 0 4 ≠ ⊤) (hc : ∀ b j, 0 ≤ bo B b j 0 + bo B b j 2 ∧ 0 ≤ bo B b j 1 + bo B b j 3)
    (L : grid0.Coords) (i : S16.Idx) :
    rowV (F := Ideal) L pf bf i = ∑ k ∈ Finset.range 16, ∑ s ∈ Finset.range 6, lossS A B (16 * k + (i 0).val) (32 * s + wid L) := by
  unfold rowV k0_pay2
  simp only [Pointwise.shapeCast_apply, Shape.reshapeEquiv_self]
  show k0_pay595 (F := Ideal) _ + _ = _
  rw [zero_vec, zero_add]
  exact acc_at A B pf bf hP hB hA hc L i 16 le_rfl

/-! ## All subcores -/

theorem lossS_sum (b : ℕ) : ∑ n ∈ Finset.range (32 * 6), lossS A B b n = ∑ n ∈ Finset.range 169, loss A B b n := by
  rw [show 32 * 6 = 169 + 23 from rfl, Finset.sum_range_add, Finset.sum_eq_zero (s := Finset.range 23), add_zero]
  · exact Finset.sum_congr rfl fun n hn => if_pos (Finset.mem_range.mp hn)
  · exact fun n _ => if_neg (by omega)

/-- The sum of all cells' losses over all pictures. -/
def total : EReal := ∑ b ∈ Finset.range 256, ∑ n ∈ Finset.range 169, loss A B b n

theorem sum_all (g : ℕ → ℕ → EReal) : ∑ r ∈ Finset.range 32, ∑ i ∈ Finset.range 16, ∑ k ∈ Finset.range 16, ∑ s ∈ Finset.range 6, g (16 * k + i) (32 * s + r)
    = ∑ b ∈ Finset.range 256, ∑ n ∈ Finset.range (32 * 6), g b n := by
  rw [Finset.sum_comm, show 256 = 16 * 16 from rfl, ← sum_grid 16 (fun b => ∑ n ∈ Finset.range (32 * 6), g b n) 16, Finset.sum_comm (s := Finset.range 16) (t := Finset.range 16)]
  refine Finset.sum_congr rfl fun i _ => ?_
  rw [Finset.sum_comm]
  refine Finset.sum_congr rfl fun k _ => ?_
  rw [Finset.sum_comm, ← sum_grid 32 _ 6]

theorem OUT_sum (hP : ∀ n c a k e, pf (K.ix6 n c a k e) = pr A (a.val * 128 + e.val) n k c)
    (hB : ∀ j a c e, bf (K.ix4 j a c e) = bo B (a.val * 128 + e.val) j.val c)
    (hA : ∀ b n, pr A b n 0 4 ≠ ⊤) (hc : ∀ b j, 0 ≤ bo B b j 0 + bo B b j 2 ∧ 0 ≤ bo B b j 1 + bo B b j 3) :
    ∑ x : S32x16.Idx, OUT (F := Ideal) pf bf x = total A B := by
  have hw : ∀ r : Fin 32, wid (crow r) = r.val := by decide +kernel
  have ho : ∀ (r : Fin 32) (i : Fin 16), OUT (F := Ideal) pf bf (ix2 r i)
      = ∑ k ∈ Finset.range 16, ∑ s ∈ Finset.range 6, lossS A B (16 * k + i.val) (32 * s + r.val) := fun r i => by
    rw [← hw r]; exact row_at A B pf bf hP hB hA hc (crow r) (K.ix1 i)
  have e := sum_all (lossS A B)
  simp only [lossS_sum] at e
  rw [total, ← e, show (∑ x : S32x16.Idx, OUT (F := Ideal) pf bf x) = ∑ r : Fin 32, ∑ i : Fin 16, OUT (F := Ideal) pf bf (ix2 r i) from sum_idx2 _, Finset.sum_range]
  refine Finset.sum_congr rfl fun r _ => ?_
  rw [Finset.sum_range]
  exact Finset.sum_congr rfl fun i _ => ho r i

/-- The kernel's result: the mean of the pictures' losses. -/
theorem ker_eq (m : (ℓ : Loc nD τ sig) → Buf (Elt Ideal) ℓ) (d : Dev nD) (hA : ∀ b n, pr (argA m d) b n 0 4 ≠ ⊤)
    (hc : ∀ b j, 0 ≤ bo (argB m d) b j 0 + bo (argB m d) b j 2 ∧ 0 ≤ bo (argB m d) b j 1 + bo (argB m d) b j 3) :
    W9 (F := Ideal) m d b_v6 = fun _ => Ideal.div (total (argA m d) (argB m d)) (Ideal.ofBits .f32 0x43800000#32) := by
  rw [W9_eq]
  funext j
  show Ideal.div (Ideal.hostReduceAdd _ _ _ _) _ = _
  rw [Ideal.hostReduceAdd_total _ (fun b => b.elim0), OUT_sum _ _ _ _ (pV_at m d) (bV_at m d) hA hc]
  show Ideal.div (Ideal.ofBits .f32 0x00000000#32 + _) _ = _
  rw [Ideal.ofBits_zero_f32, zero_add]
  rfl

end Cert.Proof.V
end
-- ==== Proof.VScat.lean ====
/-
  The reference's scatters, read at one place: an update is a box, its five words are picture, row, column, anchor and
  channel, and of a picture's boxes the last one that lies in the cell sets the place.
-/
module

public import proofs.«01_k».proof.Proof.VSum
public import proofs.«01_k».proof.Proof.Gen.ReferenceIdeal.Run
public import Idealize.ShloMosaic.Lib.Pointwise
public import Idealize.ShloMosaic.Lib.Routing.OpsPair

@[expose] public section

noncomputable section

namespace Cert.Proof.V

open Cert.ReferenceIdeal Cert.ReferenceIdeal.Gen
open Idealize.ShloMosaic Idealize.ShloMosaic.StableHlo
open Idealize.ShloMosaic.ScatterToDense (GS GS_succ GS_zero stepAtTok scatter_fold_tok)

abbrev scat := scatter_S256x13x13x2x25_S2048x5_S2048_n_01234_01234_1

/-! ## The table of words -/

/-- Five words of each box, side by side. -/
def tab (w0 w1 w2 w3 w4 : S2048.Idx → BitVec 32) : S2048x5.Idx → BitVec 32 :=
  concatenate S2048x5 1 [⟨S2048x1, broadcastInDim S2048x1 ![0] bcast_S2048_S2048x1_0 w0⟩, ⟨S2048x1, broadcastInDim S2048x1 ![0] bcast_S2048_S2048x1_0 w1⟩,
    ⟨S2048x1, broadcastInDim S2048x1 ![0] bcast_S2048_S2048x1_0 w2⟩, ⟨S2048x1, broadcastInDim S2048x1 ![0] bcast_S2048_S2048x1_0 w3⟩,
    ⟨S2048x1, broadcastInDim S2048x1 ![0] bcast_S2048_S2048x1_0 w4⟩] concatenates_S2048x1_S2048x1_S2048x1_S2048x1_S2048x1_S2048x5_d1

theorem tab_at (w0 w1 w2 w3 w4 : S2048.Idx → BitVec 32) (k : Fin 2048) (q : Fin 5) : tab w0 w1 w2 w3 w4 (ix2 k q) = ![w0 (ix1 k), w1 (ix1 k), w2 (ix1 k), w3 (ix1 k), w4 (ix1 k)] q := by
  unfold tab
  fin_cases q <;> pointwise <;> rfl

/-! ## Where an update lands -/

theorem start_eq (idx : IVec S2048x5 32) (k : Fin 2048) (q : Fin 5) : scat.start (ix1 k) idx q = (idx (ix2 k q)).toInt := by
  unfold ScatterDims.start
  rw [dif_pos (show q ∈ scat.scatterDimsToOperandDims by revert q; decide)]
  refine congrArg (fun z => (idx z).toInt) (funext fun b => ?_)
  fin_cases b
  · rfl
  · fin_cases q <;> rfl

theorem window_eq (k : Fin 2048) (q : Fin 5) : scat.window (ix1 k) q = 0 := by
  unfold ScatterDims.window
  rw [dif_neg (show q ∉ scat.sKept by revert q; decide)]

theorem lands (idx : IVec S2048x5 32) (k : Fin 2048) (b : Fin 256) (y x : Fin 13) (a : Fin 2) (c : Fin 25) :
    scat.resultIdx? (ix1 k) idx = some (ix5 b y x a c) ↔ (idx (ix2 k 0)).toInt = b.val ∧ (idx (ix2 k 1)).toInt = y.val ∧ (idx (ix2 k 2)).toInt = x.val
      ∧ (idx (ix2 k 3)).toInt = a.val ∧ (idx (ix2 k 4)).toInt = c.val := by
  rw [Routing.resultIdx?_eq_some]
  constructor
  · intro h
    have g : ∀ q : Fin 5, (idx (ix2 k q)).toInt = ((ix5 b y x a c : S256x13x13x2x25.Idx) q).val := fun q => by
      have := h q
      rw [start_eq, window_eq] at this
      simpa using this
    exact ⟨g 0, g 1, g 2, g 3, g 4⟩
  · rintro ⟨h0, h1, h2, h3, h4⟩ q
    rw [start_eq, window_eq]
    fin_cases q
    · simpa using h0
    · simpa using h1
    · simpa using h2
    · simpa using h3
    · simpa using h4

theorem small_int (n : ℕ) (h : n < 2 ^ 31) : (BitVec.ofNat 32 n).toInt = n := by
  rw [BitVec.toInt_eq_toNat_of_lt (by rw [BitVec.toNat_ofNat]; omega), BitVec.toNat_ofNat]; omega

/-! ## A scatter at one place -/

variable (B : SB.Idx → EReal)

/-- The table of a scatter into channel `ch`: what it holds, box by box. -/
structure Words (t : S2048x5.Idx → BitVec 32) (ch : ℕ) : Prop where
  pic : ∀ n : Fin 2048, t (ix2 n 0) = BitVec.ofNat 32 (n.val / 8)
  row : ∀ n : Fin 2048, t (ix2 n 1) = K.gci (F := Ideal) (bo B (n.val / 8) (n.val % 8) 1) (bo B (n.val / 8) (n.val % 8) 3)
  col : ∀ n : Fin 2048, t (ix2 n 2) = K.gci (F := Ideal) (bo B (n.val / 8) (n.val % 8) 0) (bo B (n.val / 8) (n.val % 8) 2)
  anc : ∀ n : Fin 2048, t (ix2 n 3) = 0#32
  chn : ∀ n : Fin 2048, t (ix2 n 4) = BitVec.ofNat 32 ch

theorem lands_iff (hc : ∀ b j, 0 ≤ bo B b j 0 + bo B b j 2 ∧ 0 ≤ bo B b j 1 + bo B b j 3) (t : S2048x5.Idx → BitVec 32) (ch : ℕ) (hch : ch < 25)
    (hw : Words B t ch) (n : Fin 2048) (b : Fin 256) (y x : Fin 13) (a : Fin 2) (c : Fin 25) :
    scat.resultIdx? (ix1 n) t = some (ix5 b y x a c)
      ↔ (n.val / 8 = b.val ∧ 13 * y.val + x.val = (cel B b.val (n.val % 8)).toNat) ∧ a = 0 ∧ c.val = ch := by
  obtain ⟨x', y', hx, hy, ex, ey, e⟩ := cel_eq B (n.val / 8) (n.val % 8) (hc _ _).1 (hc _ _).2
  have hn := n.isLt
  have hy' := y.isLt
  have hx' := x.isLt
  rw [lands]
  simp only [hw.pic, hw.row, hw.col, hw.anc, hw.chn, ex, ey]
  rw [small_int _ (by omega), small_int _ (by omega), small_int _ (by omega), small_int _ (by omega), small_int _ (by omega)]
  constructor
  · rintro ⟨h0, h1, h2, h3, h4⟩
    have h0' : n.val / 8 = b.val := by omega
    rw [← h0', e]
    exact ⟨⟨rfl, by omega⟩, Fin.ext (by show a.val = 0; omega), by omega⟩
  · rintro ⟨⟨h0, h1⟩, rfl, h3⟩
    rw [← h0, e] at h1
    refine ⟨by omega, by omega, by omega, rfl, by omega⟩

theorem symm_ix1 (n : Fin S2048.numel) (h : n.val < 2048) : S2048.rowMajor.symm n = ix1 (⟨n.val, h⟩ : Fin 2048) :=
  (S2048.rowMajor.symm_apply_eq).2 (Fin.ext (rowMajor_val1 (d := ![2048]) (ix1 (⟨n.val, h⟩ : Fin 2048))).symm)

/-- A scatter that sets. -/
def sc (x0 : S256x13x13x2x25.Idx → EReal) (t : S2048x5.Idx → BitVec 32) (u : S2048.Idx → EReal) : S256x13x13x2x25.Idx → EReal :=
  Host.scatter scat (fun _ z => z) x0 t u

theorem scat_at (hc : ∀ b j, 0 ≤ bo B b j 0 + bo B b j 2 ∧ 0 ≤ bo B b j 1 + bo B b j 3) (t : S2048x5.Idx → BitVec 32) (ch : ℕ) (hch : ch < 25)
    (hw : Words B t ch) (x0 : S256x13x13x2x25.Idx → EReal) (u : S2048.Idx → EReal) (v : ℕ → ℕ → EReal) (hv : ∀ n : Fin 2048, u (ix1 n) = v (n.val / 8) (n.val % 8))
    (b : Fin 256) (y x : Fin 13) (a : Fin 2) (c : Fin 25) :
    sc x0 t u (ix5 b y x a c)
      = if a = 0 ∧ c.val = ch then GS (cel B b.val) (v b.val) (x0 (ix5 b y x a c)) (13 * y.val + x.val) 8 else x0 (ix5 b y x a c) := by
  have hN : S2048.numel = 256 * 8 := by decide
  unfold sc
  rw [Routing.scatter_at]
  split
  · next h =>
    rw [← scatter_fold_tok (cel B b.val) (v b.val) (x0 (ix5 b y x a c)) (13 * y.val + x.val) b.isLt, ← hN, ← List.map_coe_finRange_eq_range, List.foldl_map]
    refine congrArg (fun f => List.foldl f _ _) (funext fun s => funext fun n => ?_)
    rw [symm_ix1 n (lt_of_lt_of_eq n.isLt hN), hv]
    unfold stepAtTok
    have hl := lands_iff B hc t ch hch hw ⟨n.val, lt_of_lt_of_eq n.isLt hN⟩ b y x a c
    by_cases e : n.val / 8 = b.val ∧ 13 * y.val + x.val = (cel B b.val (n.val % 8)).toNat
    · rw [if_pos (hl.mpr ⟨e, h⟩), if_pos e, ← e.1]
    · rw [if_neg fun q => e (hl.mp q).1, if_neg e]
  · next h =>
    generalize x0 (ix5 b y x a c) = z
    induction List.finRange S2048.numel generalizing z with
    | nil => rfl
    | cons n l ih =>
      rw [List.foldl_cons, if_neg, ih]
      rw [symm_ix1 n (lt_of_lt_of_eq n.isLt hN), lands_iff B hc t ch hch hw]
      exact fun q => h q.2

end Cert.Proof.V
end
-- ==== Proof.VRef.lean ====
/-
  The reference's result over the extended reals: its target array, place by place, and its three sums brought to the sum
  of all cells' losses.
-/
module

public import proofs.«01_k».proof.Proof.VScat

@[expose] public section

noncomputable section

namespace Cert.Proof.V

open Cert.ReferenceIdeal Cert.ReferenceIdeal.Gen
open Cert.ReferenceIdeal.Value (res_main_v17 res_main_v21 res_main_v22 res_main_v23 res_main_v41 res_main_v43 res_main_v46 res_main_v128 res_main_v182 res_main_v187 res_main_v191 res_main_v201 res_main_v207)
open Idealize.ShloMosaic Idealize.ShloMosaic.StableHlo
open Idealize.ShloMosaic.ScatterToDense (GS)

variable (V : Valuation τ sig (Elt Ideal))

/-- The reference's predictions and boxes. -/
abbrev rA : SP.Idx → EReal := V (Proc.devRef .tc main_arg0)
abbrev rB : SB.Idx → EReal := V (Proc.devRef .tc main_arg1)

/-- A box's coordinate, read from the array. -/
theorem bo_fin (B : SB.Idx → EReal) (b : Fin 256) (j : Fin 8) (c : Fin 4) : bo B b.val j.val c = B (ix3 b j c) := by
  have h : b.val % 256 = b.val := Nat.mod_eq_of_lt b.isLt
  have h' : j.val % 8 = j.val := Nat.mod_eq_of_lt j.isLt
  simp only [bo, h, h']

theorem v17_at (b : Fin 256) (j : Fin 8) : res_main_v17 (F := Ideal) V (ix2 b j) = K.gcl (F := Ideal) (bo (rB V) b.val j.val 0) (bo (rB V) b.val j.val 2) := by
  rw [bo_fin, bo_fin]
  unfold res_main_v17
  pointwise
  rfl
theorem v21_at (b : Fin 256) (j : Fin 8) : res_main_v21 (F := Ideal) V (ix2 b j) = K.gcl (F := Ideal) (bo (rB V) b.val j.val 1) (bo (rB V) b.val j.val 3) := by
  rw [bo_fin, bo_fin]
  unfold res_main_v21
  pointwise
  rfl

/-- Update `n` is box `n % 8` of picture `n / 8`. -/
theorem flat {α : Type} (f : S256x8.Idx → α) (n : Fin 2048) : shapeCast S2048 f shapeCasts_S256x8_S2048 (ix1 n)
    = f (ix2 (⟨n.val / 8, by have := n.isLt; omega⟩ : Fin 256) (⟨n.val % 8, Nat.mod_lt _ (by decide)⟩ : Fin 8)) := by
  pointwise

variable (hc : ∀ b j, 0 ≤ bo (rB V) b j 0 + bo (rB V) b j 2 ∧ 0 ≤ bo (rB V) b j 1 + bo (rB V) b j 3)

/-- The wrap of an index word. -/
def wr (w : S2048.Idx → BitVec 32) (k : BitVec 32) : S2048.Idx → BitVec 32 :=
  select (cmpi .slt w (broadcastInDim S2048 ![] bcast_S_S2048 (constantI S_ 32 0#32))) (addi w (broadcastInDim S2048 ![] bcast_S_S2048 (constantI S_ 32 k))) w

theorem wr_at (w : S2048.Idx → BitVec 32) (k : BitVec 32) (i : S2048.Idx) (n : ℕ) (h : w i = BitVec.ofNat 32 n) (hn : n < 2 ^ 31) : wr w k i = w i := by
  refine Routing.wrap_of_lt (w i) _ ?_
  rw [h, BitVec.toNat_ofNat]; omega

/-- A word that is the same for every box. -/
def cst (k : BitVec 32) : S2048.Idx → BitVec 32 := id (broadcastInDim S2048 ![] bcast_S_S2048 (constantI S_ 32 k))

/-- The table of the scatter into channel `k`. -/
def words (k : BitVec 32) : S2048x5.Idx → BitVec 32 :=
  tab (wr (res_main_v46 (F := Ideal) V) 256#32) (wr (res_main_v43 (F := Ideal) V) 13#32) (wr (res_main_v41 (F := Ideal) V) 13#32) (cst 0#32) (cst k)

theorem v46_at (n : Fin 2048) : res_main_v46 (F := Ideal) V (ix1 n) = BitVec.ofNat 32 (n.val / 8) := by
  unfold res_main_v46
  refine (flat _ n).trans ?_
  pointwise

include hc in
theorem v43_at (n : Fin 2048) : res_main_v43 (F := Ideal) V (ix1 n) = K.gci (F := Ideal) (bo (rB V) (n.val / 8) (n.val % 8) 1) (bo (rB V) (n.val / 8) (n.val % 8) 3) := by
  unfold res_main_v43
  refine (flat _ n).trans ?_
  obtain ⟨y, hy, ey, fy⟩ := centre _ _ (hc (n.val / 8) (n.val % 8)).2
  show Ideal.fptosi 32 (Ideal.liftRound Int.floor (res_main_v21 (F := Ideal) V _)) = _
  rw [v21_at, fy, ey, fptosi_nat y hy]
include hc in
theorem v41_at (n : Fin 2048) : res_main_v41 (F := Ideal) V (ix1 n) = K.gci (F := Ideal) (bo (rB V) (n.val / 8) (n.val % 8) 0) (bo (rB V) (n.val / 8) (n.val % 8) 2) := by
  unfold res_main_v41
  refine (flat _ n).trans ?_
  obtain ⟨y, hy, ey, fy⟩ := centre _ _ (hc (n.val / 8) (n.val % 8)).1
  show Ideal.fptosi 32 (Ideal.liftRound Int.floor (res_main_v17 (F := Ideal) V _)) = _
  rw [v17_at, fy, ey, fptosi_nat y hy]

include hc in
theorem words_ok (k : ℕ) : Words (rB V) (words V (BitVec.ofNat 32 k)) k where
  pic n := (tab_at _ _ _ _ _ n 0).trans ((wr_at _ _ _ _ (v46_at V n) (by have := n.isLt; omega)).trans (v46_at V n))
  row n := by
    obtain ⟨y, hy, ey, _⟩ := centre _ _ (hc (n.val / 8) (n.val % 8)).2
    exact (tab_at _ _ _ _ _ n 1).trans ((wr_at _ _ _ _ ((v43_at V hc n).trans ey) (by omega)).trans (v43_at V hc n))
  col n := by
    obtain ⟨y, hy, ey, _⟩ := centre _ _ (hc (n.val / 8) (n.val % 8)).1
    exact (tab_at _ _ _ _ _ n 2).trans ((wr_at _ _ _ _ ((v41_at V hc n).trans ey) (by omega)).trans (v41_at V hc n))
  anc n := tab_at _ _ _ _ _ n 3
  chn n := tab_at _ _ _ _ _ n 4

/-! ## The target array -/

/-- The updates of the five scatters. -/
def up0 : S2048.Idx → EReal := shapeCast S2048 (subf (F := Ideal) (φ := .f32) (res_main_v17 V) (res_main_v22 V)) shapeCasts_S256x8_S2048
def up1 : S2048.Idx → EReal := shapeCast S2048 (subf (F := Ideal) (φ := .f32) (res_main_v21 V) (res_main_v23 V)) shapeCasts_S256x8_S2048
def up2 : S2048.Idx → EReal := shapeCast S2048 (Host.divf (F := Ideal) (φ := .f32) (subf (shapeCast S256x8 (extractStridedSlice S256x8x1 ![0, 0, 2] (rB V) slices_S256x8x4_S256x8x1_0_0_2) shapeCasts_S256x8x1_S256x8) (shapeCast S256x8 (extractStridedSlice S256x8x1 ![0, 0, 0] (rB V) slices_S256x8x4_S256x8x1_0_0_0) shapeCasts_S256x8x1_S256x8)) (broadcastInDim S256x8 ![] bcast_S_S256x8 (constant S_ .f32 0x43D00000#32))) shapeCasts_S256x8_S2048
def up3 : S2048.Idx → EReal := shapeCast S2048 (Host.divf (F := Ideal) (φ := .f32) (subf (shapeCast S256x8 (extractStridedSlice S256x8x1 ![0, 0, 3] (rB V) slices_S256x8x4_S256x8x1_0_0_3) shapeCasts_S256x8x1_S256x8) (shapeCast S256x8 (extractStridedSlice S256x8x1 ![0, 0, 1] (rB V) slices_S256x8x4_S256x8x1_0_0_1) shapeCasts_S256x8x1_S256x8)) (broadcastInDim S256x8 ![] bcast_S_S256x8 (constant S_ .f32 0x43D00000#32))) shapeCasts_S256x8_S2048
def up4 : S2048.Idx → EReal := broadcastInDim S2048 ![] bcast_S_S2048 (constant (F := Ideal) S_ .f32 0x3F800000#32)

include hc in
theorem up0_at (n : Fin 2048) : up0 V (ix1 n) = tar (rB V) 0 (n.val / 8) (n.val % 8) := by
  unfold up0
  rw [flat]
  obtain ⟨y, hy, ey, fy⟩ := centre _ _ (hc (n.val / 8) (n.val % 8)).1
  show FloatOps.subf (F := Ideal) (φ := .f32) (res_main_v17 (F := Ideal) V _) (Ideal.liftRound Int.floor (res_main_v17 (F := Ideal) V _)) = FloatOps.subf (F := Ideal) (φ := .f32) (K.gcl (F := Ideal) _ _) (FloatOps.sitofp (F := Ideal) .f32 (K.gci (F := Ideal) _ _))
  rw [v17_at, fy, ey, sitofp_nat y hy]
include hc in
theorem up1_at (n : Fin 2048) : up1 V (ix1 n) = tar (rB V) 1 (n.val / 8) (n.val % 8) := by
  unfold up1
  rw [flat]
  obtain ⟨y, hy, ey, fy⟩ := centre _ _ (hc (n.val / 8) (n.val % 8)).2
  show FloatOps.subf (F := Ideal) (φ := .f32) (res_main_v21 (F := Ideal) V _) (Ideal.liftRound Int.floor (res_main_v21 (F := Ideal) V _)) = FloatOps.subf (F := Ideal) (φ := .f32) (K.gcl (F := Ideal) _ _) (FloatOps.sitofp (F := Ideal) .f32 (K.gci (F := Ideal) _ _))
  rw [v21_at, fy, ey, sitofp_nat y hy]
theorem up2_at (n : Fin 2048) : up2 V (ix1 n) = tar (rB V) 2 (n.val / 8) (n.val % 8) := by
  unfold up2
  rw [flat, show tar (rB V) 2 (n.val / 8) (n.val % 8) = K.gcw (F := Ideal) (bo (rB V) (n.val / 8) (n.val % 8) 0) (bo (rB V) (n.val / 8) (n.val % 8) 2) from rfl,
    bo_fin (rB V) ⟨n.val / 8, by have := n.isLt; omega⟩ ⟨n.val % 8, Nat.mod_lt _ (by decide)⟩, bo_fin (rB V) ⟨n.val / 8, by have := n.isLt; omega⟩ ⟨n.val % 8, Nat.mod_lt _ (by decide)⟩]
  pointwise
  rfl
theorem up3_at (n : Fin 2048) : up3 V (ix1 n) = tar (rB V) 3 (n.val / 8) (n.val % 8) := by
  unfold up3
  rw [flat, show tar (rB V) 3 (n.val / 8) (n.val % 8) = K.gcw (F := Ideal) (bo (rB V) (n.val / 8) (n.val % 8) 1) (bo (rB V) (n.val / 8) (n.val % 8) 3) from rfl,
    bo_fin (rB V) ⟨n.val / 8, by have := n.isLt; omega⟩ ⟨n.val % 8, Nat.mod_lt _ (by decide)⟩, bo_fin (rB V) ⟨n.val / 8, by have := n.isLt; omega⟩ ⟨n.val % 8, Nat.mod_lt _ (by decide)⟩]
  pointwise
  rfl
theorem up4_at (n : Fin 2048) : up4 (ix1 n) = 1 := Ideal.ofBits_one_f32

/-- The array of zeros that the first scatter starts from. -/
def zeros : S256x13x13x2x25.Idx → EReal := broadcastInDim S256x13x13x2x25 ![] bcast_S_S256x13x13x2x25 (constant (F := Ideal) S_ .f32 0x00000000#32)
theorem zeros_at (i : S256x13x13x2x25.Idx) : zeros i = 0 := Ideal.ofBits_zero_f32

theorem v128_eq : res_main_v128 (F := Ideal) V = sc (sc (sc zeros (words V 0#32) (up0 V)) (words V 1#32) (up1 V)) (words V 2#32) (up2 V) := rfl
theorem v182_eq : res_main_v182 (F := Ideal) V = sc (sc (res_main_v128 (F := Ideal) V) (words V 3#32) (up3 V)) (words V 4#32) up4 := rfl

include hc in
theorem tgt_at (b : Fin 256) (y x : Fin 13) (a : Fin 2) (c : Fin 25) : res_main_v182 (F := Ideal) V (ix5 b y x a c)
    = if a = 0 then (if h : c.val < 4 then tg (rB V) ⟨c.val, h⟩ b.val (13 * y.val + x.val) else if c.val = 4 then on (rB V) b.val (13 * y.val + x.val) else 0) else 0 := by
  rw [v182_eq, v128_eq, scat_at (rB V) hc _ 4 (by decide) (words_ok V hc 4) _ _ (fun _ _ => 1) up4_at, scat_at (rB V) hc _ 3 (by decide) (words_ok V hc 3) _ _ (tar (rB V) 3) (up3_at V),
    scat_at (rB V) hc _ 2 (by decide) (words_ok V hc 2) _ _ (tar (rB V) 2) (up2_at V), scat_at (rB V) hc _ 1 (by decide) (words_ok V hc 1) _ _ (tar (rB V) 1) (up1_at V hc),
    scat_at (rB V) hc _ 0 (by decide) (words_ok V hc 0) _ _ (tar (rB V) 0) (up0_at V hc), zeros_at]
  by_cases ha : a = 0
  · simp only [ha, true_and, if_true]
    by_cases h : c.val < 4
    · rw [dif_pos h]
      have : c.val = 0 ∨ c.val = 1 ∨ c.val = 2 ∨ c.val = 3 := by omega
      rcases this with e | e | e | e <;> simp [e, tg]
    · rw [dif_neg h]
      by_cases h4 : c.val = 4
      · simp [h4, on]
      · rw [if_neg h4, if_neg h4, if_neg (by omega), if_neg (by omega), if_neg (by omega), if_neg (by omega)]
  · simp [ha]

end Cert.Proof.V
end
-- ==== Proof.VLoss.lean ====
/-
  The reference's three sums brought to the sum of all cells' losses.
-/
module

public import proofs.«01_k».proof.Proof.VRef

@[expose] public section

noncomputable section

namespace Cert.Proof.V

open Cert.ReferenceIdeal Cert.ReferenceIdeal.Gen
open Cert.ReferenceIdeal.Value (res_main_v182 res_main_v187 res_main_v191 res_main_v201 res_main_v207)
open Idealize.ShloMosaic Idealize.ShloMosaic.StableHlo

variable (V : Valuation τ sig (Elt Ideal))
variable (hc : ∀ b j, 0 ≤ bo (rB V) b j 0 + bo (rB V) b j 2 ∧ 0 ≤ bo (rB V) b j 1 + bo (rB V) b j 3)

/-- A prediction, read from the array. -/
theorem pr_fin (A : SP.Idx → EReal) (b : Fin 256) (y x : Fin 13) (a : Fin 2) (c : Fin 25) : A (ix5 b y x a c) = pr A b.val (13 * y.val + x.val) a c := by
  have h : b.val % 256 = b.val := Nat.mod_eq_of_lt b.isLt
  have h1 : (13 * y.val + x.val) / 13 % 13 = y.val := by have := y.isLt; have := x.isLt; omega
  have h2 : (13 * y.val + x.val) % 13 = x.val := by have := y.isLt; have := x.isLt; omega
  simp only [pr, h, h1, h2]

/-! ## The summands -/

theorem chan4 (f : S256x13x13x2x25.Idx → EReal) (b : Fin 256) (y x : Fin 13) (a : Fin 2) :
    shapeCast S256x13x13x2 (extractStridedSlice S256x13x13x2x1 ![0, 0, 0, 0, 4] f slices_S256x13x13x2x25_S256x13x13x2x1_0_0_0_0_4) shapeCasts_S256x13x13x2x1_S256x13x13x2 (ix4 b y x a)
      = f (ix5 b y x a 4) := by
  pointwise

/-- A cell's mark in the reference's target array. -/
def onv (b : Fin 256) (y x : Fin 13) (a : Fin 2) : EReal := if a = 0 then on (rB V) b.val (13 * y.val + x.val) else 0

include hc in
theorem mark_at (b : Fin 256) (y x : Fin 13) (a : Fin 2) : shapeCast S256x13x13x2 (extractStridedSlice S256x13x13x2x1 ![0, 0, 0, 0, 4] (res_main_v182 (F := Ideal) V) slices_S256x13x13x2x25_S256x13x13x2x1_0_0_0_0_4) shapeCasts_S256x13x13x2x1_S256x13x13x2 (ix4 b y x a)
    = onv V b y x a := by
  refine (chan4 (res_main_v182 (F := Ideal) V) b y x a).trans ((tgt_at V hc b y x a 4).trans ?_)
  show (if a = 0 then (if h : (4 : Fin 25).val < 4 then _ else if (4 : Fin 25).val = 4 then _ else _) else _) = if a = 0 then _ else _
  rw [dif_neg (show ¬ (4 : Fin 25).val < 4 by decide), if_pos (show (4 : Fin 25).val = 4 by decide)]

/-- The reference's mask. -/
def hit (b : Fin 256) (y x : Fin 13) (a : Fin 2) : EReal := res_main_v187 (F := Ideal) V (ix4 b y x a)

include hc in
theorem v187_at (b : Fin 256) (y x : Fin 13) (a : Fin 2) : hit V b y x a = onv V b y x a := by
  have k : ∀ z : EReal, ((((Ideal.cmp .oeq z (Ideal.ofBits .f32 0x3F800000#32)).toNat : ℝ) : EReal)) = if z = 1 then 1 else 0 := fun z => by
    rw [Ideal.ofBits_one_f32]
    show (((BitVec.ofBool (decide (z = 1))).toNat : ℝ) : EReal) = _
    split
    · next h =>
      rw [decide_eq_true h]
      show (((1 : ℕ) : ℝ) : EReal) = 1
      norm_num
    · next h => rw [decide_eq_false h]; norm_num
  refine (congrArg (fun z : EReal => (((Ideal.cmp .oeq z (Ideal.ofBits .f32 0x3F800000#32)).toNat : ℝ) : EReal)) (mark_at V hc b y x a)).trans ((k _).trans ?_)
  rw [onv]
  by_cases ha : a = 0
  · rw [if_pos ha]
    rcases on_or (rB V) b.val (13 * y.val + x.val) with e | e <;> rw [e] <;> simp
  · rw [if_neg ha]; simp

include hc in
theorem v191_at (b : Fin 256) (y x : Fin 13) (c : Fin 4) : (res_main_v191 (F := Ideal) V (ix5 b y x 0 c) : EReal)
    = pr (rA V) b.val (13 * y.val + x.val) 0 (c.castLE (by decide)) - tg (rB V) c b.val (13 * y.val + x.val) := by
  have e := tgt_at V hc b y x 0 (c.castLE (by decide))
  rw [if_pos rfl, dif_pos (show (c.castLE (by decide) : Fin 25).val < 4 from c.isLt)] at e
  have r : ∀ f : S256x13x13x2x25.Idx → EReal, extractStridedSlice S256x13x13x2x4 ![0, 0, 0, 0, 0] f slices_S256x13x13x2x25_S256x13x13x2x4_0_0_0_0_0 (ix5 b y x 0 c)
      = f (ix5 b y x 0 (c.castLE (by decide))) := fun f => by
    pointwise
    rfl
  rw [← pr_fin]
  exact congrArg₂ (fun x y : EReal => x - y) (r (rA V)) ((r (res_main_v182 (F := Ideal) V)).trans e)

include hc in
theorem v201_at (b : Fin 256) (y x : Fin 13) (a : Fin 2) : (res_main_v201 (F := Ideal) V (ix4 b y x a) : EReal)
    = pr (rA V) b.val (13 * y.val + x.val) a 4 - onv V b y x a := by
  rw [← pr_fin]
  exact congrArg₂ (fun x y : EReal => x - y) (chan4 (rA V) b y x a) (mark_at V hc b y x a)

include hc in
theorem v207_at (b : Fin 256) (y x : Fin 13) (c : Fin 20) : (res_main_v207 (F := Ideal) V (ix5 b y x 0 c) : EReal)
    = pr (rA V) b.val (13 * y.val + x.val) 0 (Fin.natAdd 5 c) := by
  have e := tgt_at V hc b y x 0 (Fin.natAdd 5 c)
  rw [if_pos rfl, dif_neg (show ¬ (Fin.natAdd 5 c).val < 4 by simp; omega), if_neg (show ¬ (Fin.natAdd 5 c).val = 4 by simp; omega)] at e
  have r : ∀ f : S256x13x13x2x25.Idx → EReal, extractStridedSlice S256x13x13x2x20 ![0, 0, 0, 0, 5] f slices_S256x13x13x2x25_S256x13x13x2x20_0_0_0_0_5 (ix5 b y x 0 c)
      = f (ix5 b y x 0 (Fin.natAdd 5 c)) := fun f => by
    pointwise
    rfl
  rw [← pr_fin]
  refine (congrArg₂ (fun x y : EReal => x - y) (r (rA V)) ((r (res_main_v182 (F := Ideal) V)).trans e)).trans ?_
  exact sub_zero _

/-! ## The three sums -/

/-- A sum over pictures, rows and columns as one over pictures and cells. -/
theorem sum_cells (g : ℕ → ℕ → EReal) : ∑ b : Fin 256, ∑ y : Fin 13, ∑ x : Fin 13, g b.val (13 * y.val + x.val)
    = ∑ b ∈ Finset.range 256, ∑ n ∈ Finset.range 169, g b n := by
  rw [Finset.sum_range]
  refine Finset.sum_congr rfl fun b _ => ?_
  rw [show 169 = 13 * 13 from rfl, ← sum_grid 13 (g b.val) 13, Finset.sum_range]
  refine Finset.sum_congr rfl fun y _ => ?_
  rw [Finset.sum_range]

include hc in
theorem sum1 : ∑ i : S256x13x13x2x4.Idx, (mulf (F := Ideal) (φ := .f32) (broadcastInDim S256x13x13x2x4 ![0, 1, 2, 3, 4] bcast_S256x13x13x2x1_S256x13x13x2x4_0_1_2_3_4 (broadcastInDim S256x13x13x2x1 ![0, 1, 2, 3] bcast_S256x13x13x2_S256x13x13x2x1_0_1_2_3 (res_main_v187 V))) (mulf (res_main_v191 V) (res_main_v191 V)) i : EReal)
    = ∑ b ∈ Finset.range 256, ∑ n ∈ Finset.range 169, on (rB V) b n * co (rA V) (rB V) b n := by
  have r : ∀ b y x a c, broadcastInDim S256x13x13x2x4 ![0, 1, 2, 3, 4] bcast_S256x13x13x2x1_S256x13x13x2x4_0_1_2_3_4 (broadcastInDim S256x13x13x2x1 ![0, 1, 2, 3] bcast_S256x13x13x2_S256x13x13x2x1_0_1_2_3 (res_main_v187 (F := Ideal) V)) (ix5 b y x a c)
      = res_main_v187 (F := Ideal) V (ix4 b y x a) := fun b y x a c => by pointwise
  rw [← sum_cells]
  refine (sum_idx5 _).trans ?_
  refine Finset.sum_congr rfl fun b _ => Finset.sum_congr rfl fun y _ => Finset.sum_congr rfl fun x _ => ?_
  rw [Fin.sum_univ_two]
  have h1 : ∀ c : Fin 4, (mulf (F := Ideal) (φ := .f32) (broadcastInDim S256x13x13x2x4 ![0, 1, 2, 3, 4] bcast_S256x13x13x2x1_S256x13x13x2x4_0_1_2_3_4 (broadcastInDim S256x13x13x2x1 ![0, 1, 2, 3] bcast_S256x13x13x2_S256x13x13x2x1_0_1_2_3 (res_main_v187 V))) (mulf (res_main_v191 V) (res_main_v191 V)) (ix5 b y x 1 c) : EReal) = 0 := fun c => by
    refine (congrArg (fun z : EReal => z * _) ((r b y x 1 c).trans (v187_at V hc b y x 1))).trans ?_
    rw [onv, if_neg (by decide), zero_mul]
  have h0 : ∀ c : Fin 4, (mulf (F := Ideal) (φ := .f32) (broadcastInDim S256x13x13x2x4 ![0, 1, 2, 3, 4] bcast_S256x13x13x2x1_S256x13x13x2x4_0_1_2_3_4 (broadcastInDim S256x13x13x2x1 ![0, 1, 2, 3] bcast_S256x13x13x2_S256x13x13x2x1_0_1_2_3 (res_main_v187 V))) (mulf (res_main_v191 V) (res_main_v191 V)) (ix5 b y x 0 c) : EReal)
      = on (rB V) b.val (13 * y.val + x.val) * ((pr (rA V) b.val (13 * y.val + x.val) 0 (c.castLE (by decide)) - tg (rB V) c b.val (13 * y.val + x.val)) * (pr (rA V) b.val (13 * y.val + x.val) 0 (c.castLE (by decide)) - tg (rB V) c b.val (13 * y.val + x.val))) := fun c => by
    have e := v191_at V hc b y x c
    refine (congrArg₂ (fun z w : EReal => z * w) ((r b y x 0 c).trans (v187_at V hc b y x 0)) (congrArg₂ (fun z w : EReal => z * w) e e)).trans ?_
    rw [onv, if_pos rfl]
  refine (congrArg₂ (fun z w : EReal => z + w) (Finset.sum_congr rfl fun c _ => h0 c) (Finset.sum_congr rfl fun c _ => h1 c)).trans ?_
  rw [Finset.sum_const_zero, add_zero, co, mul_sum_nonneg _ _ _ fun c => sq_nonneg _]

include hc in
theorem sum2 : ∑ i : S256x13x13x2.Idx, (mulf (F := Ideal) (φ := .f32) (res_main_v201 V) (res_main_v201 V) i : EReal)
    = ∑ b ∈ Finset.range 256, ∑ n ∈ Finset.range 169, cf (rA V) (rB V) b n := by
  rw [← sum_cells]
  refine (sum_idx4 _).trans ?_
  refine Finset.sum_congr rfl fun b _ => Finset.sum_congr rfl fun y _ => Finset.sum_congr rfl fun x _ => ?_
  rw [Fin.sum_univ_two]
  have e0 := v201_at V hc b y x 0
  have e1 := v201_at V hc b y x 1
  rw [onv, if_pos rfl] at e0
  rw [onv, if_neg (by decide), sub_zero] at e1
  exact congrArg₂ (fun z w : EReal => z + w) (congrArg₂ (fun z w : EReal => z * w) e0 e0) (congrArg₂ (fun z w : EReal => z * w) e1 e1)

include hc in
theorem sum3 : ∑ i : S256x13x13x2x20.Idx, (mulf (F := Ideal) (φ := .f32) (broadcastInDim S256x13x13x2x20 ![0, 1, 2, 3, 4] bcast_S256x13x13x2x1_S256x13x13x2x20_0_1_2_3_4 (broadcastInDim S256x13x13x2x1 ![0, 1, 2, 3] bcast_S256x13x13x2_S256x13x13x2x1_0_1_2_3 (res_main_v187 V))) (mulf (res_main_v207 V) (res_main_v207 V)) i : EReal)
    = ∑ b ∈ Finset.range 256, ∑ n ∈ Finset.range 169, on (rB V) b n * cl (rA V) b n := by
  have r : ∀ b y x a c, broadcastInDim S256x13x13x2x20 ![0, 1, 2, 3, 4] bcast_S256x13x13x2x1_S256x13x13x2x20_0_1_2_3_4 (broadcastInDim S256x13x13x2x1 ![0, 1, 2, 3] bcast_S256x13x13x2_S256x13x13x2x1_0_1_2_3 (res_main_v187 (F := Ideal) V)) (ix5 b y x a c)
      = res_main_v187 (F := Ideal) V (ix4 b y x a) := fun b y x a c => by pointwise
  rw [← sum_cells]
  refine (sum_idx5 _).trans ?_
  refine Finset.sum_congr rfl fun b _ => Finset.sum_congr rfl fun y _ => Finset.sum_congr rfl fun x _ => ?_
  rw [Fin.sum_univ_two]
  have h1 : ∀ c : Fin 20, (mulf (F := Ideal) (φ := .f32) (broadcastInDim S256x13x13x2x20 ![0, 1, 2, 3, 4] bcast_S256x13x13x2x1_S256x13x13x2x20_0_1_2_3_4 (broadcastInDim S256x13x13x2x1 ![0, 1, 2, 3] bcast_S256x13x13x2_S256x13x13x2x1_0_1_2_3 (res_main_v187 V))) (mulf (res_main_v207 V) (res_main_v207 V)) (ix5 b y x 1 c) : EReal) = 0 := fun c => by
    refine (congrArg (fun z : EReal => z * _) ((r b y x 1 c).trans (v187_at V hc b y x 1))).trans ?_
    rw [onv, if_neg (by decide), zero_mul]
  have h0 : ∀ c : Fin 20, (mulf (F := Ideal) (φ := .f32) (broadcastInDim S256x13x13x2x20 ![0, 1, 2, 3, 4] bcast_S256x13x13x2x1_S256x13x13x2x20_0_1_2_3_4 (broadcastInDim S256x13x13x2x1 ![0, 1, 2, 3] bcast_S256x13x13x2_S256x13x13x2x1_0_1_2_3 (res_main_v187 V))) (mulf (res_main_v207 V) (res_main_v207 V)) (ix5 b y x 0 c) : EReal)
      = on (rB V) b.val (13 * y.val + x.val) * (pr (rA V) b.val (13 * y.val + x.val) 0 (Fin.natAdd 5 c) * pr (rA V) b.val (13 * y.val + x.val) 0 (Fin.natAdd 5 c)) := fun c => by
    have e := v207_at V hc b y x c
    refine (congrArg₂ (fun z w : EReal => z * w) ((r b y x 0 c).trans (v187_at V hc b y x 0)) (congrArg₂ (fun z w : EReal => z * w) e e)).trans ?_
    rw [onv, if_pos rfl]
  refine (congrArg₂ (fun z w : EReal => z + w) (Finset.sum_congr rfl fun c _ => h0 c) (Finset.sum_congr rfl fun c _ => h1 c)).trans ?_
  rw [Finset.sum_const_zero, add_zero, cl, mul_sum_nonneg _ _ _ fun c => sq_nonneg _]

/-! ## The result -/

theorem on_nonneg (B : SB.Idx → EReal) (b n : ℕ) : 0 ≤ on B b n := by
  rcases on_or B b n with h | h <;> rw [h] <;> norm_num

theorem five_total (A : SP.Idx → EReal) (B : SB.Idx → EReal) :
    ((5 : ℝ) : EReal) * (∑ b ∈ Finset.range 256, ∑ n ∈ Finset.range 169, on B b n * co A B b n) + (∑ b ∈ Finset.range 256, ∑ n ∈ Finset.range 169, cf A B b n)
      + (∑ b ∈ Finset.range 256, ∑ n ∈ Finset.range 169, on B b n * cl A b n) = total A B := by
  have hn : ∀ b n, 0 ≤ on B b n * co A B b n := fun b n => mul_nonneg (on_nonneg B b n) (Finset.sum_nonneg fun c _ => sq_nonneg _)
  rw [mul_sum_nonneg _ _ _ fun b => Finset.sum_nonneg fun n _ => hn b n, ← Finset.sum_add_distrib, ← Finset.sum_add_distrib]
  refine Finset.sum_congr rfl fun b _ => ?_
  rw [mul_sum_nonneg _ _ _ fun n => hn b n, ← Finset.sum_add_distrib, ← Finset.sum_add_distrib]
  refine Finset.sum_congr rfl fun n _ => ?_
  rw [loss]
  rcases on_or B b n with h | h <;> rw [h]
  · simp
  · rw [one_mul, one_mul, one_mul]
    generalize ((5 : ℝ) : EReal) * co A B b n = u, cf A B b n = v, cl A b n = w
    ac_rfl

include hc in
/-- The reference's result: the mean of the pictures' losses. -/
theorem ref_eq : Host.divf (F := Ideal) (φ := .f32) (addf (addf (mulf (constant S_ .f32 0x40A00000#32) (Host.reduceAdd (mulf (broadcastInDim S256x13x13x2x4 ![0, 1, 2, 3, 4] bcast_S256x13x13x2x1_S256x13x13x2x4_0_1_2_3_4 (broadcastInDim S256x13x13x2x1 ![0, 1, 2, 3] bcast_S256x13x13x2_S256x13x13x2x1_0_1_2_3 (res_main_v187 V))) (mulf (res_main_v191 V) (res_main_v191 V))) (constant S_ .f32 0x00000000#32) reducesTo_S256x13x13x2x4_S_d0_1_2_3_4 h_S_)) (Host.reduceAdd (mulf (res_main_v201 V) (res_main_v201 V)) (constant S_ .f32 0x00000000#32) reducesTo_S256x13x13x2_S_d0_1_2_3 h_S_)) (Host.reduceAdd (mulf (broadcastInDim S256x13x13x2x20 ![0, 1, 2, 3, 4] bcast_S256x13x13x2x1_S256x13x13x2x20_0_1_2_3_4 (broadcastInDim S256x13x13x2x1 ![0, 1, 2, 3] bcast_S256x13x13x2_S256x13x13x2x1_0_1_2_3 (res_main_v187 V))) (mulf (res_main_v207 V) (res_main_v207 V))) (constant S_ .f32 0x00000000#32) reducesTo_S256x13x13x2x20_S_d0_1_2_3_4 h_S_)) (constant S_ .f32 0x43800000#32)
    = fun _ => Ideal.div (total (rA V) (rB V)) (Ideal.ofBits .f32 0x43800000#32) := by
  funext j
  refine congrArg (fun z => Ideal.div z (Ideal.ofBits .f32 0x43800000#32)) ?_
  have z0 : ∀ s : EReal, Ideal.ofBits .f32 0x00000000#32 + s = s := fun s => by rw [Ideal.ofBits_zero_f32, zero_add]
  refine Eq.trans ?_ (five_total (rA V) (rB V))
  refine congrArg₂ (fun z w : EReal => z + w) (congrArg₂ (fun z w : EReal => z + w) (congrArg₂ (fun z w : EReal => z * w) lit_five ?_) ?_) ?_
  · exact ((Ideal.hostReduceAdd_total _ (fun b => b.elim0) _ _ j).trans (z0 _)).trans (sum1 V hc)
  · exact ((Ideal.hostReduceAdd_total _ (fun b => b.elim0) _ _ j).trans (z0 _)).trans (sum2 V hc)
  · exact ((Ideal.hostReduceAdd_total _ (fun b => b.elim0) _ _ j).trans (z0 _)).trans (sum3 V hc)

end Cert.Proof.V
end
-- ==== Proof.VPre.lean ====
/-
  What the precondition says of the arguments: the first confidence of every cell is below infinity, and no box's centre has a negative coordinate.
-/
module

public import proofs.«01_k».proof.Defs
public import proofs.«01_k».proof.Proof.VSpec
public import Idealize.ShloMosaic.Lib.ReduceAll
public import Idealize.ShloMosaic.Lib.Pointwise

@[expose] public section

noncomputable section

namespace Cert.Proof.V

open Cert.Pre_centred_boxes
open Idealize.ShloMosaic Idealize.ShloMosaic.StableHlo

/-- The shape facts of the precondition's operations. -/
theorem preFacts : Cert.Pre_centred_boxes.Facts where
  slices_S256x13x13x2x25_S256x13x13x1x1_0_0_0_0_4 := by decide
  shapeCasts_S256x13x13x1x1_S256x13x13 := by decide
  bcast_S_S256x13x13 := by decide
  reducesTo_S256x13x13_S_d0_1_2 := by decide
  h_S_ := by decide
  slices_S256x8x4_S256x8x1_0_0_0 := by decide
  shapeCasts_S256x8x1_S256x8 := by decide
  slices_S256x8x4_S256x8x1_0_0_2 := by decide
  bcast_S_S256x8 := by decide
  reducesTo_S256x8_S_d0_1 := by decide
  slices_S256x8x4_S256x8x1_0_0_1 := by decide
  slices_S256x8x4_S256x8x1_0_0_3 := by decide

instance : Subsingleton S_.Idx := ⟨fun i j => funext fun b => b.elim0⟩

theorem and_one : ∀ x y : BitVec 1, IntOp.andi x y = 1#1 → x = 1#1 ∧ y = 1#1 := by decide

theorem ofBool_one (p : Prop) [Decidable p] (h : BitVec.ofBool (decide p) = 1#1) : p := by
  by_contra hp
  rw [decide_eq_false hp] at h
  exact absurd h (by decide)

theorem top_bits : Ideal.ofBits .f32 0x7F800000#32 = ⊤ := by
  simp [Ideal.ofBits, Ideal.ieee]

theorem coord (B : SB.Idx → EReal) (c : Fin 4) (h : S256x8x4.Slices ![0, 0, c.val] S256x8x1) (h' : S256x8x1.ShapeCasts S256x8) (b : Fin 256) (j : Fin 8) :
    shapeCast S256x8 (extractStridedSlice S256x8x1 ![0, 0, c.val] B h) h' (ix2 b j) = B (ix3 b j c) := by
  pointwise

theorem conf (A : SP.Idx → EReal) (h : S256x13x13x2x25.Slices ![0, 0, 0, 0, 4] S256x13x13x1x1) (h' : S256x13x13x1x1.ShapeCasts S256x13x13) (b : Fin 256) (y x : Fin 13) :
    shapeCast S256x13x13 (extractStridedSlice S256x13x13x1x1 ![0, 0, 0, 0, 4] A h) h' (ix3 b y x) = A (ix5 b y x 0 4) := by
  pointwise

theorem pre_gives [Cert.Pre_centred_boxes.Facts] (A : SP.Idx → EReal) (B : SB.Idx → EReal) (L : IVec S256x8 32) (h : fn (F := Ideal) A B L = fun _ => 1#1) :
    (∀ b n, pr A b n 0 4 ≠ ⊤) ∧ ∀ b j, 0 ≤ bo B b j 0 + bo B b j 2 ∧ 0 ≤ bo B b j 1 + bo B b j 3 := by
  have h := congrFun h (Shape.Idx.first Facts.h_S_)
  obtain ⟨h12, hy⟩ := and_one _ _ h
  obtain ⟨ha, hx⟩ := and_one _ _ h12
  refine ⟨fun b n => ?_, fun b j => ?_⟩
  · have e := Host.reduce_andi_all _ _ _ _ _ ha (ix3 ⟨b % 256, Nat.mod_lt _ (by decide)⟩ ⟨n / 13 % 13, Nat.mod_lt _ (by decide)⟩ ⟨n % 13, Nat.mod_lt _ (by decide)⟩)
    have k : ∀ u w : EReal, u = w → BitVec.ofBool (decide (u < Ideal.ofBits .f32 0x7F800000#32)) = 1#1 → w ≠ ⊤ := fun u w e g => by
      subst e
      have g := ofBool_one _ g
      rw [top_bits] at g
      exact g.ne
    exact k _ _ (conf A _ _ _ _ _) e
  · have ex := Host.reduce_andi_all _ _ _ _ _ hx (ix2 ⟨b % 256, Nat.mod_lt _ (by decide)⟩ ⟨j % 8, Nat.mod_lt _ (by decide)⟩)
    have ey := Host.reduce_andi_all _ _ _ _ _ hy (ix2 ⟨b % 256, Nat.mod_lt _ (by decide)⟩ ⟨j % 8, Nat.mod_lt _ (by decide)⟩)
    have k : ∀ u v w z : EReal, u = w → v = z → BitVec.ofBool (decide (Ideal.ofBits .f32 0x00000000#32 ≤ u + v)) = 1#1 → 0 ≤ w + z := fun u v w z e f g => by
      subst e f
      rw [Ideal.ofBits_zero_f32] at g
      exact ofBool_one _ g
    exact ⟨k _ _ _ _ (coord B 0 _ _ _ _) (coord B 2 _ _ _ _) ex, k _ _ _ _ (coord B 1 _ _ _ _) (coord B 3 _ _ _ _) ey⟩

end Cert.Proof.V
end
-- ==== Proof.lean ====
/-
  The proof of `Cert.Claim`: each program's frame (Proof/Frames.lean), that the idealization, which rewrote nothing,
  keeps what the program computes, and that the kernel's loss is the reference's: both are the mean of the cells' losses
  (Proof/VSum.lean for the kernel, Proof/VLoss.lean for the reference).
-/
module

public import proofs.«01_k».proof.Defs
public import proofs.«01_k».proof.Proof.Frames
public import proofs.«01_k».proof.Proof.VSum
public import proofs.«01_k».proof.Proof.VLoss
public import proofs.«01_k».proof.Proof.VPre

@[expose] public section

noncomputable section

namespace Cert.Proof

open Idealize.ShloMosaic Idealize.SL.Sem

theorem loss_equal : Cert.algebraic_KernelIdeal_ReferenceIdeal_pre_centred_boxes (hKernelIdeal := Cert.KernelIdeal.Gen.facts)
    (hReferenceIdeal := Cert.ReferenceIdeal.Gen.facts) (hPre_centred_boxes := V.preFacts) := fun m ρ m' ρ' hpre hargs => by
  have hp := fun c => @V.pre_gives V.preFacts _ _ _ (hpre c)
  refine ⟨fun c => fun _ => Ideal.div (V.total (V.argA m c) (V.argB m c)) (Ideal.ofBits .f32 0x43800000#32),
    (θ_run Cert.KernelIdeal.defs _ _).mono (fun _ h c => ⟨((h.1 c).2.2.2).trans (V.ker_eq m c (hp c).1 (hp c).2), (h.1 c).1, (h.1 c).2.1, (h.1 c).2.2.1⟩) (KI.run_main m ρ),
    (θ_run Cert.ReferenceIdeal.defs _ _).mono (fun _ h c => ⟨(h c).1.trans ?_, (h c).2⟩) (Cert.ReferenceIdeal.Value.run m' ρ')⟩
  have eA : V.rA (StableHlo.launchContents m' c) = V.argA m c := (hargs c).1
  have eB : V.rB (StableHlo.launchContents m' c) = V.argB m c := (hargs c).2.1
  refine (V.ref_eq (StableHlo.launchContents m' c) (by rw [eB]; exact (hp c).2)).trans ?_
  rw [eA, eB]
  rfl

theorem claim : Cert.Claim := ⟨Cert.Kernel.Gen.facts, Cert.KernelIdeal.Gen.facts, Cert.ReferenceIdeal.Gen.facts, V.preFacts,
  frame_Kernel, frame_KernelIdeal, fun m ρ _ => frame_KernelIdeal m ρ trivial, frame_ReferenceIdeal, fun m ρ _ => frame_ReferenceIdeal m ρ trivial,
  trivial, loss_equal⟩

end Cert.Proof

end
